-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_group_maxima_in_range [hPre_group_maxima_in_range : Cert.Pre_group_maxima_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_group_maxima_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_group_maxima_in_range [hPre_group_maxima_in_range : Cert.Pre_group_maxima_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_group_maxima_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_group_maxima_in_range [hKernelIdeal : Cert.KernelIdeal.Facts] [hPre_group_maxima_in_range : Cert.Pre_group_maxima_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_group_maxima_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_group_maxima_in_range [hReferenceIdeal : Cert.ReferenceIdeal.Facts] [hPre_group_maxima_in_range : Cert.Pre_group_maxima_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_group_maxima_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_group_maxima_in_range [hKernelIdeal : Cert.KernelIdeal.Facts] [hReferenceIdeal : Cert.ReferenceIdeal.Facts] [hPre_group_maxima_in_range : Cert.Pre_group_maxima_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_group_maxima_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v31)) (v3 : (c : Dev Cert.KernelIdeal.nD) → Buf (Elt Ideal) ((c.tc : Thread Cert.KernelIdeal.nD Cert.KernelIdeal.τ).loc Cert.KernelIdeal.main_v32)) (v4 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v31) = v2 c
          ∧ r.2.mem ((c.tc : Thread Cert.KernelIdeal.nD Cert.KernelIdeal.τ).loc Cert.KernelIdeal.main_v32) = v3 c
          ∧ r.2.mem ((c.tc : Thread Cert.KernelIdeal.nD Cert.KernelIdeal.τ).loc Cert.KernelIdeal.main_v33) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v25_0) = v3 c
          ∧ r.2.mem ((c.tc : Thread Cert.ReferenceIdeal.nD Cert.ReferenceIdeal.τ).loc Cert.ReferenceIdeal.main_v24) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_group_maxima_in_range : Cert.Pre_group_maxima_in_range.Facts),
    quiescent_Kernel (hKernel := hKernel)
    ∧ quiescent_KernelIdeal (hKernelIdeal := hKernelIdeal)
    ∧ quiescent_KernelIdeal_pre_group_maxima_in_range (hKernelIdeal := hKernelIdeal) (hPre_group_maxima_in_range := hPre_group_maxima_in_range)
    ∧ quiescent_ReferenceIdeal (hReferenceIdeal := hReferenceIdeal)
    ∧ quiescent_ReferenceIdeal_pre_group_maxima_in_range (hReferenceIdeal := hReferenceIdeal) (hPre_group_maxima_in_range := hPre_group_maxima_in_range)
    ∧ preserves_Kernel_KernelIdeal
    ∧ algebraic_KernelIdeal_ReferenceIdeal_pre_group_maxima_in_range (hKernelIdeal := hKernelIdeal) (hReferenceIdeal := hReferenceIdeal) (hPre_group_maxima_in_range := hPre_group_maxima_in_range)
-- ==== Pre_group_maxima_in_range.lean ====
abbrev S2x512x8192 : Shape := ⟨3, ![2, 512, 8192]⟩
abbrev S2x512 : Shape := ⟨2, ![2, 512]⟩
abbrev S8192x10240 : Shape := ⟨2, ![8192, 10240]⟩
abbrev S64x80 : Shape := ⟨2, ![64, 80]⟩
abbrev S2x512x64x128 : Shape := ⟨4, ![2, 512, 64, 128]⟩
abbrev S_ : Shape := ⟨0, ![]⟩
abbrev S2x512x64 : Shape := ⟨3, ![2, 512, 64]⟩

class Facts : Prop where
  bitsLt_bf16_f32 : FTy.bits .bf16 < FTy.bits .f32
  shapeCasts_S2x512x8192_S2x512x64x128 : S2x512x8192.ShapeCasts S2x512x64x128
  reducesTo_S2x512x64x128_S2x512x64_d3 : S2x512x64x128.ReducesTo [3] S2x512x64
  h_S_ : 0 < S_.numel
  bcast_S_S2x512x64 : S_.BroadcastsInDim S2x512x64 (![] : Fin 0 → Fin S2x512x64.rank)

variable [Facts]

def fn {F : FTy → Type} [FloatOps F] (main_arg0 : FVec F S2x512x8192 .bf16) (main_arg1 : IVec S2x512 32) (main_arg2 : FVec F S8192x10240 .fp8e4m3) (main_arg3 : FVec F S64x80 .f32) : IVec S2x512x64 1 :=
  let main_v0 : FVec F S2x512x8192 .f32 := (extf .f32 · bitsLt_bf16_f32) main_arg0
  let main_v1 : FVec F S2x512x64x128 .f32 := shapeCast S2x512x64x128 main_v0 shapeCasts_S2x512x8192_S2x512x64x128
  let main_v2 : FVec F S2x512x64x128 .f32 := Host.absf main_v1
  let main_cst : FVec F S_ .f32 := constant S_ .f32 0xFF800000#32
  let main_v3 : FVec F S2x512x64 .f32 := (fun x v => Host.reduce FloatOps.maximumf x v reducesTo_S2x512x64x128_S2x512x64_d3 h_S_) main_v2 main_cst
  let main_cst_0 : FVec F S_ .f32 := constant S_ .f32 0x00000000#32
  let main_v4 : FVec F S2x512x64 .f32 := broadcastInDim S2x512x64 ![] bcast_S_S2x512x64 main_cst_0
  let main_v5 : IVec S2x512x64 1 := cmpf .oeq main_v3 main_v4
  let main_cst_1 : FVec F S_ .f32 := constant S_ .f32 0x04600000#32
  let main_v6 : FVec F S2x512x64 .f32 := broadcastInDim S2x512x64 ![] bcast_S_S2x512x64 main_cst_1
  let main_v7 : IVec S2x512x64 1 := cmpf .oge main_v3 main_v6
  let main_cst_2 : FVec F S_ .f32 := constant S_ .f32 0x7F7F0000#32
  let main_v8 : FVec F S2x512x64 .f32 := broadcastInDim S2x512x64 ![] bcast_S_S2x512x64 main_cst_2
  let main_v9 : IVec S2x512x64 1 := cmpf .ole main_v3 main_v8
  let main_v10 : IVec S2x512x64 1 := andi main_v7 main_v9
  let main_v11 : IVec S2x512x64 1 := ori main_v5 main_v10
  main_v11
-- ==== Kernel.lean ====
abbrev S2x512x8192 : Shape := ⟨3, ![2, 512, 8192]⟩
abbrev S2x512 : Shape := ⟨2, ![2, 512]⟩
abbrev S8192x10240 : Shape := ⟨2, ![8192, 10240]⟩
abbrev S64x80 : Shape := ⟨2, ![64, 80]⟩
abbrev S1024x8192 : Shape := ⟨2, ![1024, 8192]⟩
abbrev S1024x64 : Shape := ⟨2, ![1024, 64]⟩
abbrev S64x8192 : Shape := ⟨2, ![64, 8192]⟩
abbrev S64x64 : Shape := ⟨2, ![64, 64]⟩
abbrev S64x128 : Shape := ⟨2, ![64, 128]⟩
abbrev S64 : Shape := ⟨1, ![64]⟩
abbrev S64x1 : Shape := ⟨2, ![64, 1]⟩
abbrev S64x256 : Shape := ⟨2, ![64, 256]⟩
abbrev S_ : Shape := ⟨0, ![]⟩
abbrev S1024 : Shape := ⟨1, ![1024]⟩
abbrev S1024x1 : Shape := ⟨2, ![1024, 1]⟩
abbrev S1x64 : Shape := ⟨2, ![1, 64]⟩
abbrev S1024x128 : Shape := ⟨2, ![1024, 128]⟩
abbrev S1024x10240 : Shape := ⟨2, ![1024, 10240]⟩
abbrev S8192x512 : Shape := ⟨2, ![8192, 512]⟩
abbrev S1024x512 : Shape := ⟨2, ![1024, 512]⟩
abbrev S128x128 : Shape := ⟨2, ![128, 128]⟩
abbrev S1x1 : Shape := ⟨2, ![1, 1]⟩
abbrev S128x512 : Shape := ⟨2, ![128, 512]⟩
abbrev S1024x1024 : Shape := ⟨2, ![1024, 1024]⟩
abbrev S2x512x64x128 : Shape := ⟨4, ![2, 512, 64, 128]⟩
abbrev S2x512x8x128 : Shape := ⟨4, ![2, 512, 8, 128]⟩
abbrev S2x512x64 : Shape := ⟨3, ![2, 512, 64]⟩

abbrev nBuf : Space → Nat
  | .hbm => 45
  | .vmem => 15
  | .smem => 1
  | _ => 0

abbrev bufTy : (tb : Table) → Fin (tcTables nBuf tb) → BufTy
  | .hbm, ⟨0, _⟩ => ⟨S2x512x8192, .bf16⟩
  | .hbm, ⟨1, _⟩ => ⟨S2x512, .i32⟩
  | .hbm, ⟨2, _⟩ => ⟨S8192x10240, .fp8e4m3⟩
  | .hbm, ⟨3, _⟩ => ⟨S64x80, .f32⟩
  | .hbm, ⟨4, _⟩ => ⟨S1024x8192, .bf16⟩
  | .hbm, ⟨5, _⟩ => ⟨S1024x8192, .fp8e4m3⟩
  | .hbm, ⟨6, _⟩ => ⟨S1024x64, .f32⟩
  | .hbm, ⟨7, _⟩ => ⟨S1024x8192, .bf16⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S1024, .i32⟩
  | .hbm, ⟨25, _⟩ => ⟨S1024, .f32⟩
  | .hbm, ⟨26, _⟩ => ⟨S1024x1, .f32⟩
  | .hbm, ⟨27, _⟩ => ⟨S1x64, .f32⟩
  | .hbm, ⟨28, _⟩ => ⟨S1024x64, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S1024x64, .f32⟩
  | .hbm, ⟨33, _⟩ => ⟨S1024x128, .f32⟩
  | .hbm, ⟨34, _⟩ => ⟨S1024x64, .f32⟩
  | .hbm, ⟨35, _⟩ => ⟨S1024x128, .f32⟩
  | .hbm, ⟨36, _⟩ => ⟨S1024x10240, .bf16⟩
  | .hbm, ⟨37, _⟩ => ⟨S1024x8192, .bf16⟩
  | .hbm, ⟨38, _⟩ => ⟨S2x512x64x128, .bf16⟩
  | .hbm, ⟨39, _⟩ => ⟨S1024x1024, .bf16⟩
  | .hbm, ⟨40, _⟩ => ⟨S2x512x8x128, .bf16⟩
  | .hbm, ⟨41, _⟩ => ⟨S1024x1024, .bf16⟩
  | .hbm, ⟨42, _⟩ => ⟨S2x512x8x128, .bf16⟩
  | .hbm, ⟨43, _⟩ => ⟨S2x512x8192, .fp8e4m3⟩
  | .hbm, ⟨44, _⟩ => ⟨S2x512x64, .f32⟩
  | .local _ .vmem, ⟨0, _⟩ => ⟨S64x8192, .bf16⟩
  | .local _ .vmem, ⟨1, _⟩ => ⟨S64x8192, .bf16⟩
  | .local _ .vmem, ⟨2, _⟩ => ⟨S64x8192, .fp8e4m3⟩
  | .local _ .vmem, ⟨3, _⟩ => ⟨S64x8192, .fp8e4m3⟩
  | .local _ .vmem, ⟨4, _⟩ => ⟨S64x64, .f32⟩
  | .local _ .vmem, ⟨5, _⟩ => ⟨S64x64, .f32⟩
  | .local _ .vmem, ⟨6, _⟩ => ⟨S64x8192, .bf16⟩
  | .local _ .vmem, ⟨7, _⟩ => ⟨S64x8192, .bf16⟩
  | .local _ .vmem, ⟨8, _⟩ => ⟨S1024x8192, .bf16⟩
  | .local _ .vmem, ⟨9, _⟩ => ⟨S8192x512, .fp8e4m3⟩
  | .local _ .vmem, ⟨10, _⟩ => ⟨S8192x512, .fp8e4m3⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .smem, ⟨0, _⟩ => ⟨S64x80, .f32⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def k1_off1 (i : grid1.Coords) (c0_i32 : BitVec 32) : Fin 2 → Nat :=
  let c0_1 : Index := 0#32
  let arg0 : BitVec 32 := BitVec.ofNat 32 (i 0).val
  let c4_i32 : BitVec 32 := 4#32
  let v3 : BitVec 32 := Scalar.muli arg0 c4_i32
  let v4 : BitVec 32 := Scalar.addi v3 c0_i32
  let v5 : Index := Scalar.indexCast v4
  ![0, v5.toNat]
def k1_off2 (i : grid1.Coords) (c0_i32_14 : BitVec 32) : Fin 2 → Nat :=
  let c1 : Index := 1#32
  let arg0 : BitVec 32 := BitVec.ofNat 32 (i 0).val
  let c4_i32_13 : BitVec 32 := 4#32
  let v40 : BitVec 32 := Scalar.muli arg0 c4_i32_13
  let v41 : BitVec 32 := Scalar.addi v40 c0_i32_14
  let v42 : Index := Scalar.indexCast v41
  ![1, v42.toNat]
def k1_off3 (i : grid1.Coords) (c0_i32_33 : BitVec 32) : Fin 2 → Nat :=
  let c2 : Index := 2#32
  let arg0 : BitVec 32 := BitVec.ofNat 32 (i 0).val
  let c4_i32_32 : BitVec 32 := 4#32
  let v77 : BitVec 32 := Scalar.muli arg0 c4_i32_32
  let v78 : BitVec 32 := Scalar.addi v77 c0_i32_33
  let v79 : Index := Scalar.indexCast v78
  ![2, v79.toNat]
def k1_off4 (i : grid1.Coords) (c0_i32_52 : BitVec 32) : Fin 2 → Nat :=
  let c3 : Index := 3#32
  let arg0 : BitVec 32 := BitVec.ofNat 32 (i 0).val
  let c4_i32_51 : BitVec 32 := 4#32
  let v114 : BitVec 32 := Scalar.muli arg0 c4_i32_51
  let v115 : BitVec 32 := Scalar.addi v114 c0_i32_52
  let v116 : Index := Scalar.indexCast v115
  ![3, v116.toNat]
def k1_off5 (i : grid1.Coords) (c0_i32_70 : BitVec 32) : Fin 2 → Nat :=
  let c4 : Index := 4#32
  let arg0 : BitVec 32 := BitVec.ofNat 32 (i 0).val
  let c4_i32_69 : BitVec 32 := 4#32
  let v151 : BitVec 32 := Scalar.muli arg0 c4_i32_69
  let v152 : BitVec 32 := Scalar.addi v151 c0_i32_70
  let v153 : Index := Scalar.indexCast v152
  ![4, v153.toNat]
def k1_off6 (i : grid1.Coords) (c0_i32_88 : BitVec 32) : Fin 2 → Nat :=
  let c5 : Index := 5#32
  let arg0 : BitVec 32 := BitVec.ofNat 32 (i 0).val
  let c4_i32_87 : BitVec 32 := 4#32
  let v188 : BitVec 32 := Scalar.muli arg0 c4_i32_87
  let v189 : BitVec 32 := Scalar.addi v188 c0_i32_88
  let v190 : Index := Scalar.indexCast v189
  ![5, v190.toNat]
def k1_off7 (i : grid1.Coords) (c0_i32_106 : BitVec 32) : Fin 2 → Nat :=
  let c6 : Index := 6#32
  let arg0 : BitVec 32 := BitVec.ofNat 32 (i 0).val
  let c4_i32_105 : BitVec 32 := 4#32
  let v225 : BitVec 32 := Scalar.muli arg0 c4_i32_105
  let v226 : BitVec 32 := Scalar.addi v225 c0_i32_106
  let v227 : Index := Scalar.indexCast v226
  ![6, v227.toNat]
def k1_off8 (i : grid1.Coords) (c0_i32_124 : BitVec 32) : Fin 2 → Nat :=
  let c7 : Index := 7#32
  let arg0 : BitVec 32 := BitVec.ofNat 32 (i 0).val
  let c4_i32_123 : BitVec 32 := 4#32
  let v262 : BitVec 32 := Scalar.muli arg0 c4_i32_123
  let v263 : BitVec 32 := Scalar.addi v262 c0_i32_124
  let v264 : Index := Scalar.indexCast v263
  ![7, v264.toNat]
def k1_off9 (i : grid1.Coords) (c0_i32_145 : BitVec 32) : Fin 2 → Nat :=
  let c8 : Index := 8#32
  let arg0 : BitVec 32 := BitVec.ofNat 32 (i 0).val
  let c4_i32_144 : BitVec 32 := 4#32
  let v304 : BitVec 32 := Scalar.muli arg0 c4_i32_144
  let v305 : BitVec 32 := Scalar.addi v304 c0_i32_145
  let v306 : Index := Scalar.indexCast v305
  ![8, v306.toNat]
def k1_off10 (i : grid1.Coords) (c0_i32_163 : BitVec 32) : Fin 2 → Nat :=
  let c9 : Index := 9#32
  let arg0 : BitVec 32 := BitVec.ofNat 32 (i 0).val
  let c4_i32_162 : BitVec 32 := 4#32
  let v341 : BitVec 32 := Scalar.muli arg0 c4_i32_162
  let v342 : BitVec 32 := Scalar.addi v341 c0_i32_163
  let v343 : Index := Scalar.indexCast v342
  ![9, v343.toNat]
def k1_off11 (i : grid1.Coords) (c0_i32_181 : BitVec 32) : Fin 2 → Nat :=
  let c10 : Index := 10#32
  let arg0 : BitVec 32 := BitVec.ofNat 32 (i 0).val
  let c4_i32_180 : BitVec 32 := 4#32
  let v378 : BitVec 32 := Scalar.muli arg0 c4_i32_180
  let v379 : BitVec 32 := Scalar.addi v378 c0_i32_181
  let v380 : Index := Scalar.indexCast v379
  ![10, v380.toNat]
def k1_off12 (i : grid1.Coords) (c0_i32_199 : BitVec 32) : Fin 2 → Nat :=
  let c11 : Index := 11#32
  let arg0 : BitVec 32 := BitVec.ofNat 32 (i 0).val
  let c4_i32_198 : BitVec 32 := 4#32
  let v415 : BitVec 32 := Scalar.muli arg0 c4_i32_198
  let v416 : BitVec 32 := Scalar.addi v415 c0_i32_199
  let v417 : Index := Scalar.indexCast v416
  ![11, v417.toNat]
def k1_off13 (i : grid1.Coords) (c0_i32_217 : BitVec 32) : Fin 2 → Nat :=
  let c12 : Index := 12#32
  let arg0 : BitVec 32 := BitVec.ofNat 32 (i 0).val
  let c4_i32_216 : BitVec 32 := 4#32
  let v452 : BitVec 32 := Scalar.muli arg0 c4_i32_216
  let v453 : BitVec 32 := Scalar.addi v452 c0_i32_217
  let v454 : Index := Scalar.indexCast v453
  ![12, v454.toNat]
def k1_off14 (i : grid1.Coords) (c0_i32_235 : BitVec 32) : Fin 2 → Nat :=
  let c13 : Index := 13#32
  let arg0 : BitVec 32 := BitVec.ofNat 32 (i 0).val
  let c4_i32_234 : BitVec 32 := 4#32
  let v489 : BitVec 32 := Scalar.muli arg0 c4_i32_234
  let v490 : BitVec 32 := Scalar.addi v489 c0_i32_235
  let v491 : Index := Scalar.indexCast v490
  ![13, v491.toNat]
def k1_off15 (i : grid1.Coords) (c0_i32_253 : BitVec 32) : Fin 2 → Nat :=
  let c14 : Index := 14#32
  let arg0 : BitVec 32 := BitVec.ofNat 32 (i 0).val
  let c4_i32_252 : BitVec 32 := 4#32
  let v526 : BitVec 32 := Scalar.muli arg0 c4_i32_252
  let v527 : BitVec 32 := Scalar.addi v526 c0_i32_253
  let v528 : Index := Scalar.indexCast v527
  ![14, v528.toNat]
def k1_off16 (i : grid1.Coords) (c0_i32_271 : BitVec 32) : Fin 2 → Nat :=
  let c15 : Index := 15#32
  let arg0 : BitVec 32 := BitVec.ofNat 32 (i 0).val
  let c4_i32_270 : BitVec 32 := 4#32
  let v563 : BitVec 32 := Scalar.muli arg0 c4_i32_270
  let v564 : BitVec 32 := Scalar.addi v563 c0_i32_271
  let v565 : Index := Scalar.indexCast v564
  ![15, v565.toNat]
def k1_off17 (i : grid1.Coords) (c0_i32_292 : BitVec 32) : Fin 2 → Nat :=
  let c16 : Index := 16#32
  let arg0 : BitVec 32 := BitVec.ofNat 32 (i 0).val
  let c4_i32_291 : BitVec 32 := 4#32
  let v605 : BitVec 32 := Scalar.muli arg0 c4_i32_291
  let v606 : BitVec 32 := Scalar.addi v605 c0_i32_292
  let v607 : Index := Scalar.indexCast v606
  ![16, v607.toNat]
def k1_off18 (i : grid1.Coords) (c0_i32_310 : BitVec 32) : Fin 2 → Nat :=
  let c17 : Index := 17#32
  let arg0 : BitVec 32 := BitVec.ofNat 32 (i 0).val
  let c4_i32_309 : BitVec 32 := 4#32
  let v642 : BitVec 32 := Scalar.muli arg0 c4_i32_309
  let v643 : BitVec 32 := Scalar.addi v642 c0_i32_310
  let v644 : Index := Scalar.indexCast v643
  ![17, v644.toNat]
def k1_off19 (i : grid1.Coords) (c0_i32_328 : BitVec 32) : Fin 2 → Nat :=
  let c18 : Index := 18#32
  let arg0 : BitVec 32 := BitVec.ofNat 32 (i 0).val
  let c4_i32_327 : BitVec 32 := 4#32
  let v679 : BitVec 32 := Scalar.muli arg0 c4_i32_327
  let v680 : BitVec 32 := Scalar.addi v679 c0_i32_328
  let v681 : Index := Scalar.indexCast v680
  ![18, v681.toNat]
def k1_off20 (i : grid1.Coords) (c0_i32_346 : BitVec 32) : Fin 2 → Nat :=
  let c19 : Index := 19#32
  let arg0 : BitVec 32 := BitVec.ofNat 32 (i 0).val
  let c4_i32_345 : BitVec 32 := 4#32
  let v716 : BitVec 32 := Scalar.muli arg0 c4_i32_345
  let v717 : BitVec 32 := Scalar.addi v716 c0_i32_346
  let v718 : Index := Scalar.indexCast v717
  ![19, v718.toNat]
def k1_off21 (i : grid1.Coords) (c0_i32_364 : BitVec 32) : Fin 2 → Nat :=
  let c20 : Index := 20#32
  let arg0 : BitVec 32 := BitVec.ofNat 32 (i 0).val
  let c4_i32_363 : BitVec 32 := 4#32
  let v753 : BitVec 32 := Scalar.muli arg0 c4_i32_363
  let v754 : BitVec 32 := Scalar.addi v753 c0_i32_364
  let v755 : Index := Scalar.indexCast v754
  ![20, v755.toNat]
def k1_off22 (i : grid1.Coords) (c0_i32_382 : BitVec 32) : Fin 2 → Nat :=
  let c21 : Index := 21#32
  let arg0 : BitVec 32 := BitVec.ofNat 32 (i 0).val
  let c4_i32_381 : BitVec 32 := 4#32
  let v790 : BitVec 32 := Scalar.muli arg0 c4_i32_381
  let v791 : BitVec 32 := Scalar.addi v790 c0_i32_382
  let v792 : Index := Scalar.indexCast v791
  ![21, v792.toNat]
def k1_off23 (i : grid1.Coords) (c0_i32_400 : BitVec 32) : Fin 2 → Nat :=
  let c22 : Index := 22#32
  let arg0 : BitVec 32 := BitVec.ofNat 32 (i 0).val
  let c4_i32_399 : BitVec 32 := 4#32
  let v827 : BitVec 32 := Scalar.muli arg0 c4_i32_399
  let v828 : BitVec 32 := Scalar.addi v827 c0_i32_400
  let v829 : Index := Scalar.indexCast v828
  ![22, v829.toNat]
def k1_off24 (i : grid1.Coords) (c0_i32_418 : BitVec 32) : Fin 2 → Nat :=
  let c23 : Index := 23#32
  let arg0 : BitVec 32 := BitVec.ofNat 32 (i 0).val
  let c4_i32_417 : BitVec 32 := 4#32
  let v864 : BitVec 32 := Scalar.muli arg0 c4_i32_417
  let v865 : BitVec 32 := Scalar.addi v864 c0_i32_418
  let v866 : Index := Scalar.indexCast v865
  ![23, v866.toNat]
def k1_off25 (i : grid1.Coords) (c0_i32_439 : BitVec 32) : Fin 2 → Nat :=
  let c24 : Index := 24#32
  let arg0 : BitVec 32 := BitVec.ofNat 32 (i 0).val
  let c4_i32_438 : BitVec 32 := 4#32
  let v906 : BitVec 32 := Scalar.muli arg0 c4_i32_438
  let v907 : BitVec 32 := Scalar.addi v906 c0_i32_439
  let v908 : Index := Scalar.indexCast v907
  ![24, v908.toNat]
def k1_off26 (i : grid1.Coords) (c0_i32_457 : BitVec 32) : Fin 2 → Nat :=
  let c25 : Index := 25#32
  let arg0 : BitVec 32 := BitVec.ofNat 32 (i 0).val
  let c4_i32_456 : BitVec 32 := 4#32
  let v943 : BitVec 32 := Scalar.muli arg0 c4_i32_456
  let v944 : BitVec 32 := Scalar.addi v943 c0_i32_457
  let v945 : Index := Scalar.indexCast v944
  ![25, v945.toNat]
def k1_off27 (i : grid1.Coords) (c0_i32_475 : BitVec 32) : Fin 2 → Nat :=
  let c26 : Index := 26#32
  let arg0 : BitVec 32 := BitVec.ofNat 32 (i 0).val
  let c4_i32_474 : BitVec 32 := 4#32
  let v980 : BitVec 32 := Scalar.muli arg0 c4_i32_474
  let v981 : BitVec 32 := Scalar.addi v980 c0_i32_475
  let v982 : Index := Scalar.indexCast v981
  ![26, v982.toNat]
def k1_off28 (i : grid1.Coords) (c0_i32_493 : BitVec 32) : Fin 2 → Nat :=
  let c27 : Index := 27#32
  let arg0 : BitVec 32 := BitVec.ofNat 32 (i 0).val
  let c4_i32_492 : BitVec 32 := 4#32
  let v1017 : BitVec 32 := Scalar.muli arg0 c4_i32_492
  let v1018 : BitVec 32 := Scalar.addi v1017 c0_i32_493
  let v1019 : Index := Scalar.indexCast v1018
  ![27, v1019.toNat]
def k1_off29 (i : grid1.Coords) (c0_i32_511 : BitVec 32) : Fin 2 → Nat :=
  let c28 : Index := 28#32
  let arg0 : BitVec 32 := BitVec.ofNat 32 (i 0).val
  let c4_i32_510 : BitVec 32 := 4#32
  let v1054 : BitVec 32 := Scalar.muli arg0 c4_i32_510
  let v1055 : BitVec 32 := Scalar.addi v1054 c0_i32_511
  let v1056 : Index := Scalar.indexCast v1055
  ![28, v1056.toNat]
def k1_off30 (i : grid1.Coords) (c0_i32_529 : BitVec 32) : Fin 2 → Nat :=
  let c29 : Index := 29#32
  let arg0 : BitVec 32 := BitVec.ofNat 32 (i 0).val
  let c4_i32_528 : BitVec 32 := 4#32
  let v1091 : BitVec 32 := Scalar.muli arg0 c4_i32_528
  let v1092 : BitVec 32 := Scalar.addi v1091 c0_i32_529
  let v1093 : Index := Scalar.indexCast v1092
  ![29, v1093.toNat]
def k1_off31 (i : grid1.Coords) (c0_i32_547 : BitVec 32) : Fin 2 → Nat :=
  let c30 : Index := 30#32
  let arg0 : BitVec 32 := BitVec.ofNat 32 (i 0).val
  let c4_i32_546 : BitVec 32 := 4#32
  let v1128 : BitVec 32 := Scalar.muli arg0 c4_i32_546
  let v1129 : BitVec 32 := Scalar.addi v1128 c0_i32_547
  let v1130 : Index := Scalar.indexCast v1129
  ![30, v1130.toNat]
def k1_off32 (i : grid1.Coords) (c0_i32_565 : BitVec 32) : Fin 2 → Nat :=
  let c31 : Index := 31#32
  let arg0 : BitVec 32 := BitVec.ofNat 32 (i 0).val
  let c4_i32_564 : BitVec 32 := 4#32
  let v1165 : BitVec 32 := Scalar.muli arg0 c4_i32_564
  let v1166 : BitVec 32 := Scalar.addi v1165 c0_i32_565
  let v1167 : Index := Scalar.indexCast v1166
  ![31, v1167.toNat]
def k1_off33 (i : grid1.Coords) (c0_i32_586 : BitVec 32) : Fin 2 → Nat :=
  let c32 : Index := 32#32
  let arg0 : BitVec 32 := BitVec.ofNat 32 (i 0).val
  let c4_i32_585 : BitVec 32 := 4#32
  let v1207 : BitVec 32 := Scalar.muli arg0 c4_i32_585
  let v1208 : BitVec 32 := Scalar.addi v1207 c0_i32_586
  let v1209 : Index := Scalar.indexCast v1208
  ![32, v1209.toNat]
def k1_off34 (i : grid1.Coords) (c0_i32_604 : BitVec 32) : Fin 2 → Nat :=
  let c33 : Index := 33#32
  let arg0 : BitVec 32 := BitVec.ofNat 32 (i 0).val
  let c4_i32_603 : BitVec 32 := 4#32
  let v1244 : BitVec 32 := Scalar.muli arg0 c4_i32_603
  let v1245 : BitVec 32 := Scalar.addi v1244 c0_i32_604
  let v1246 : Index := Scalar.indexCast v1245
  ![33, v1246.toNat]
def k1_off35 (i : grid1.Coords) (c0_i32_622 : BitVec 32) : Fin 2 → Nat :=
  let c34 : Index := 34#32
  let arg0 : BitVec 32 := BitVec.ofNat 32 (i 0).val
  let c4_i32_621 : BitVec 32 := 4#32
  let v1281 : BitVec 32 := Scalar.muli arg0 c4_i32_621
  let v1282 : BitVec 32 := Scalar.addi v1281 c0_i32_622
  let v1283 : Index := Scalar.indexCast v1282
  ![34, v1283.toNat]
def k1_off36 (i : grid1.Coords) (c0_i32_640 : BitVec 32) : Fin 2 → Nat :=
  let c35 : Index := 35#32
  let arg0 : BitVec 32 := BitVec.ofNat 32 (i 0).val
  let c4_i32_639 : BitVec 32 := 4#32
  let v1318 : BitVec 32 := Scalar.muli arg0 c4_i32_639
  let v1319 : BitVec 32 := Scalar.addi v1318 c0_i32_640
  let v1320 : Index := Scalar.indexCast v1319
  ![35, v1320.toNat]
def k1_off37 (i : grid1.Coords) (c0_i32_658 : BitVec 32) : Fin 2 → Nat :=
  let c36 : Index := 36#32
  let arg0 : BitVec 32 := BitVec.ofNat 32 (i 0).val
  let c4_i32_657 : BitVec 32 := 4#32
  let v1355 : BitVec 32 := Scalar.muli arg0 c4_i32_657
  let v1356 : BitVec 32 := Scalar.addi v1355 c0_i32_658
  let v1357 : Index := Scalar.indexCast v1356
  ![36, v1357.toNat]
def k1_off38 (i : grid1.Coords) (c0_i32_676 : BitVec 32) : Fin 2 → Nat :=
  let c37 : Index := 37#32
  let arg0 : BitVec 32 := BitVec.ofNat 32 (i 0).val
  let c4_i32_675 : BitVec 32 := 4#32
  let v1392 : BitVec 32 := Scalar.muli arg0 c4_i32_675
  let v1393 : BitVec 32 := Scalar.addi v1392 c0_i32_676
  let v1394 : Index := Scalar.indexCast v1393
  ![37, v1394.toNat]
def k1_off39 (i : grid1.Coords) (c0_i32_694 : BitVec 32) : Fin 2 → Nat :=
  let c38 : Index := 38#32
  let arg0 : BitVec 32 := BitVec.ofNat 32 (i 0).val
  let c4_i32_693 : BitVec 32 := 4#32
  let v1429 : BitVec 32 := Scalar.muli arg0 c4_i32_693
  let v1430 : BitVec 32 := Scalar.addi v1429 c0_i32_694
  let v1431 : Index := Scalar.indexCast v1430
  ![38, v1431.toNat]
def k1_off40 (i : grid1.Coords) (c0_i32_712 : BitVec 32) : Fin 2 → Nat :=
  let c39 : Index := 39#32
  let arg0 : BitVec 32 := BitVec.ofNat 32 (i 0).val
  let c4_i32_711 : BitVec 32 := 4#32
  let v1466 : BitVec 32 := Scalar.muli arg0 c4_i32_711
  let v1467 : BitVec 32 := Scalar.addi v1466 c0_i32_712
  let v1468 : Index := Scalar.indexCast v1467
  ![39, v1468.toNat]
def k1_off41 (i : grid1.Coords) (c0_i32_733 : BitVec 32) : Fin 2 → Nat :=
  let c40 : Index := 40#32
  let arg0 : BitVec 32 := BitVec.ofNat 32 (i 0).val
  let c4_i32_732 : BitVec 32 := 4#32
  let v1508 : BitVec 32 := Scalar.muli arg0 c4_i32_732
  let v1509 : BitVec 32 := Scalar.addi v1508 c0_i32_733
  let v1510 : Index := Scalar.indexCast v1509
  ![40, v1510.toNat]
def k1_off42 (i : grid1.Coords) (c0_i32_751 : BitVec 32) : Fin 2 → Nat :=
  let c41 : Index := 41#32
  let arg0 : BitVec 32 := BitVec.ofNat 32 (i 0).val
  let c4_i32_750 : BitVec 32 := 4#32
  let v1545 : BitVec 32 := Scalar.muli arg0 c4_i32_750
  let v1546 : BitVec 32 := Scalar.addi v1545 c0_i32_751
  let v1547 : Index := Scalar.indexCast v1546
  ![41, v1547.toNat]
def k1_off43 (i : grid1.Coords) (c0_i32_769 : BitVec 32) : Fin 2 → Nat :=
  let c42 : Index := 42#32
  let arg0 : BitVec 32 := BitVec.ofNat 32 (i 0).val
  let c4_i32_768 : BitVec 32 := 4#32
  let v1582 : BitVec 32 := Scalar.muli arg0 c4_i32_768
  let v1583 : BitVec 32 := Scalar.addi v1582 c0_i32_769
  let v1584 : Index := Scalar.indexCast v1583
  ![42, v1584.toNat]
def k1_off44 (i : grid1.Coords) (c0_i32_787 : BitVec 32) : Fin 2 → Nat :=
  let c43 : Index := 43#32
  let arg0 : BitVec 32 := BitVec.ofNat 32 (i 0).val
  let c4_i32_786 : BitVec 32 := 4#32
  let v1619 : BitVec 32 := Scalar.muli arg0 c4_i32_786
  let v1620 : BitVec 32 := Scalar.addi v1619 c0_i32_787
  let v1621 : Index := Scalar.indexCast v1620
  ![43, v1621.toNat]
def k1_off45 (i : grid1.Coords) (c0_i32_805 : BitVec 32) : Fin 2 → Nat :=
  let c44 : Index := 44#32
  let arg0 : BitVec 32 := BitVec.ofNat 32 (i 0).val
  let c4_i32_804 : BitVec 32 := 4#32
  let v1656 : BitVec 32 := Scalar.muli arg0 c4_i32_804
  let v1657 : BitVec 32 := Scalar.addi v1656 c0_i32_805
  let v1658 : Index := Scalar.indexCast v1657
  ![44, v1658.toNat]
def k1_off46 (i : grid1.Coords) (c0_i32_823 : BitVec 32) : Fin 2 → Nat :=
  let c45 : Index := 45#32
  let arg0 : BitVec 32 := BitVec.ofNat 32 (i 0).val
  let c4_i32_822 : BitVec 32 := 4#32
  let v1693 : BitVec 32 := Scalar.muli arg0 c4_i32_822
  let v1694 : BitVec 32 := Scalar.addi v1693 c0_i32_823
  let v1695 : Index := Scalar.indexCast v1694
  ![45, v1695.toNat]
def k1_off47 (i : grid1.Coords) (c0_i32_841 : BitVec 32) : Fin 2 → Nat :=
  let c46 : Index := 46#32
  let arg0 : BitVec 32 := BitVec.ofNat 32 (i 0).val
  let c4_i32_840 : BitVec 32 := 4#32
  let v1730 : BitVec 32 := Scalar.muli arg0 c4_i32_840
  let v1731 : BitVec 32 := Scalar.addi v1730 c0_i32_841
  let v1732 : Index := Scalar.indexCast v1731
  ![46, v1732.toNat]
def k1_off48 (i : grid1.Coords) (c0_i32_859 : BitVec 32) : Fin 2 → Nat :=
  let c47 : Index := 47#32
  let arg0 : BitVec 32 := BitVec.ofNat 32 (i 0).val
  let c4_i32_858 : BitVec 32 := 4#32
  let v1767 : BitVec 32 := Scalar.muli arg0 c4_i32_858
  let v1768 : BitVec 32 := Scalar.addi v1767 c0_i32_859
  let v1769 : Index := Scalar.indexCast v1768
  ![47, v1769.toNat]
def k1_off49 (i : grid1.Coords) (c0_i32_880 : BitVec 32) : Fin 2 → Nat :=
  let c48 : Index := 48#32
  let arg0 : BitVec 32 := BitVec.ofNat 32 (i 0).val
  let c4_i32_879 : BitVec 32 := 4#32
  let v1809 : BitVec 32 := Scalar.muli arg0 c4_i32_879
  let v1810 : BitVec 32 := Scalar.addi v1809 c0_i32_880
  let v1811 : Index := Scalar.indexCast v1810
  ![48, v1811.toNat]
def k1_off50 (i : grid1.Coords) (c0_i32_898 : BitVec 32) : Fin 2 → Nat :=
  let c49 : Index := 49#32
  let arg0 : BitVec 32 := BitVec.ofNat 32 (i 0).val
  let c4_i32_897 : BitVec 32 := 4#32
  let v1846 : BitVec 32 := Scalar.muli arg0 c4_i32_897
  let v1847 : BitVec 32 := Scalar.addi v1846 c0_i32_898
  let v1848 : Index := Scalar.indexCast v1847
  ![49, v1848.toNat]
def k1_off51 (i : grid1.Coords) (c0_i32_916 : BitVec 32) : Fin 2 → Nat :=
  let c50 : Index := 50#32
  let arg0 : BitVec 32 := BitVec.ofNat 32 (i 0).val
  let c4_i32_915 : BitVec 32 := 4#32
  let v1883 : BitVec 32 := Scalar.muli arg0 c4_i32_915
  let v1884 : BitVec 32 := Scalar.addi v1883 c0_i32_916
  let v1885 : Index := Scalar.indexCast v1884
  ![50, v1885.toNat]
def k1_off52 (i : grid1.Coords) (c0_i32_934 : BitVec 32) : Fin 2 → Nat :=
  let c51 : Index := 51#32
  let arg0 : BitVec 32 := BitVec.ofNat 32 (i 0).val
  let c4_i32_933 : BitVec 32 := 4#32
  let v1920 : BitVec 32 := Scalar.muli arg0 c4_i32_933
  let v1921 : BitVec 32 := Scalar.addi v1920 c0_i32_934
  let v1922 : Index := Scalar.indexCast v1921
  ![51, v1922.toNat]
def k1_off53 (i : grid1.Coords) (c0_i32_952 : BitVec 32) : Fin 2 → Nat :=
  let c52 : Index := 52#32
  let arg0 : BitVec 32 := BitVec.ofNat 32 (i 0).val
  let c4_i32_951 : BitVec 32 := 4#32
  let v1957 : BitVec 32 := Scalar.muli arg0 c4_i32_951
  let v1958 : BitVec 32 := Scalar.addi v1957 c0_i32_952
  let v1959 : Index := Scalar.indexCast v1958
  ![52, v1959.toNat]
def k1_off54 (i : grid1.Coords) (c0_i32_970 : BitVec 32) : Fin 2 → Nat :=
  let c53 : Index := 53#32
  let arg0 : BitVec 32 := BitVec.ofNat 32 (i 0).val
  let c4_i32_969 : BitVec 32 := 4#32
  let v1994 : BitVec 32 := Scalar.muli arg0 c4_i32_969
  let v1995 : BitVec 32 := Scalar.addi v1994 c0_i32_970
  let v1996 : Index := Scalar.indexCast v1995
  ![53, v1996.toNat]
def k1_off55 (i : grid1.Coords) (c0_i32_988 : BitVec 32) : Fin 2 → Nat :=
  let c54 : Index := 54#32
  let arg0 : BitVec 32 := BitVec.ofNat 32 (i 0).val
  let c4_i32_987 : BitVec 32 := 4#32
  let v2031 : BitVec 32 := Scalar.muli arg0 c4_i32_987
  let v2032 : BitVec 32 := Scalar.addi v2031 c0_i32_988
  let v2033 : Index := Scalar.indexCast v2032
  ![54, v2033.toNat]
def k1_off56 (i : grid1.Coords) (c0_i32_1006 : BitVec 32) : Fin 2 → Nat :=
  let c55 : Index := 55#32
  let arg0 : BitVec 32 := BitVec.ofNat 32 (i 0).val
  let c4_i32_1005 : BitVec 32 := 4#32
  let v2068 : BitVec 32 := Scalar.muli arg0 c4_i32_1005
  let v2069 : BitVec 32 := Scalar.addi v2068 c0_i32_1006
  let v2070 : Index := Scalar.indexCast v2069
  ![55, v2070.toNat]
def k1_off57 (i : grid1.Coords) (c0_i32_1027 : BitVec 32) : Fin 2 → Nat :=
  let c56 : Index := 56#32
  let arg0 : BitVec 32 := BitVec.ofNat 32 (i 0).val
  let c4_i32_1026 : BitVec 32 := 4#32
  let v2110 : BitVec 32 := Scalar.muli arg0 c4_i32_1026
  let v2111 : BitVec 32 := Scalar.addi v2110 c0_i32_1027
  let v2112 : Index := Scalar.indexCast v2111
  ![56, v2112.toNat]
def k1_off58 (i : grid1.Coords) (c0_i32_1045 : BitVec 32) : Fin 2 → Nat :=
  let c57 : Index := 57#32
  let arg0 : BitVec 32 := BitVec.ofNat 32 (i 0).val
  let c4_i32_1044 : BitVec 32 := 4#32
  let v2147 : BitVec 32 := Scalar.muli arg0 c4_i32_1044
  let v2148 : BitVec 32 := Scalar.addi v2147 c0_i32_1045
  let v2149 : Index := Scalar.indexCast v2148
  ![57, v2149.toNat]
def k1_off59 (i : grid1.Coords) (c0_i32_1063 : BitVec 32) : Fin 2 → Nat :=
  let c58 : Index := 58#32
  let arg0 : BitVec 32 := BitVec.ofNat 32 (i 0).val
  let c4_i32_1062 : BitVec 32 := 4#32
  let v2184 : BitVec 32 := Scalar.muli arg0 c4_i32_1062
  let v2185 : BitVec 32 := Scalar.addi v2184 c0_i32_1063
  let v2186 : Index := Scalar.indexCast v2185
  ![58, v2186.toNat]
def k1_off60 (i : grid1.Coords) (c0_i32_1081 : BitVec 32) : Fin 2 → Nat :=
  let c59 : Index := 59#32
  let arg0 : BitVec 32 := BitVec.ofNat 32 (i 0).val
  let c4_i32_1080 : BitVec 32 := 4#32
  let v2221 : BitVec 32 := Scalar.muli arg0 c4_i32_1080
  let v2222 : BitVec 32 := Scalar.addi v2221 c0_i32_1081
  let v2223 : Index := Scalar.indexCast v2222
  ![59, v2223.toNat]
def k1_off61 (i : grid1.Coords) (c0_i32_1099 : BitVec 32) : Fin 2 → Nat :=
  let c60 : Index := 60#32
  let arg0 : BitVec 32 := BitVec.ofNat 32 (i 0).val
  let c4_i32_1098 : BitVec 32 := 4#32
  let v2258 : BitVec 32 := Scalar.muli arg0 c4_i32_1098
  let v2259 : BitVec 32 := Scalar.addi v2258 c0_i32_1099
  let v2260 : Index := Scalar.indexCast v2259
  ![60, v2260.toNat]
def k1_off62 (i : grid1.Coords) (c0_i32_1117 : BitVec 32) : Fin 2 → Nat :=
  let c61 : Index := 61#32
  let arg0 : BitVec 32 := BitVec.ofNat 32 (i 0).val
  let c4_i32_1116 : BitVec 32 := 4#32
  let v2295 : BitVec 32 := Scalar.muli arg0 c4_i32_1116
  let v2296 : BitVec 32 := Scalar.addi v2295 c0_i32_1117
  let v2297 : Index := Scalar.indexCast v2296
  ![61, v2297.toNat]
def k1_off63 (i : grid1.Coords) (c0_i32_1135 : BitVec 32) : Fin 2 → Nat :=
  let c62 : Index := 62#32
  let arg0 : BitVec 32 := BitVec.ofNat 32 (i 0).val
  let c4_i32_1134 : BitVec 32 := 4#32
  let v2332 : BitVec 32 := Scalar.muli arg0 c4_i32_1134
  let v2333 : BitVec 32 := Scalar.addi v2332 c0_i32_1135
  let v2334 : Index := Scalar.indexCast v2333
  ![62, v2334.toNat]
def k1_off64 (i : grid1.Coords) (c0_i32_1153 : BitVec 32) : Fin 2 → Nat :=
  let c63 : Index := 63#32
  let arg0 : BitVec 32 := BitVec.ofNat 32 (i 0).val
  let c4_i32_1152 : BitVec 32 := 4#32
  let v2369 : BitVec 32 := Scalar.muli arg0 c4_i32_1152
  let v2370 : BitVec 32 := Scalar.addi v2369 c0_i32_1153
  let v2371 : Index := Scalar.indexCast v2370
  ![63, v2371.toNat]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8192x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S64x80 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x512x8192 : Shape := ⟨3, ![2, 512, 8192]⟩
abbrev S2x512 : Shape := ⟨2, ![2, 512]⟩
abbrev S8192x10240 : Shape := ⟨2, ![8192, 10240]⟩
abbrev S64x80 : Shape := ⟨2, ![64, 80]⟩
abbrev S2x512x64x128 : Shape := ⟨4, ![2, 512, 64, 128]⟩
abbrev S_ : Shape := ⟨0, ![]⟩
abbrev S2x512x64 : Shape := ⟨3, ![2, 512, 64]⟩
abbrev S2x512x64x1 : Shape := ⟨4, ![2, 512, 64, 1]⟩
abbrev S64x128x80x128 : Shape := ⟨4, ![64, 128, 80, 128]⟩
abbrev S64x1x80x1 : Shape := ⟨4, ![64, 1, 80, 1]⟩
abbrev S2x512x10240 : Shape := ⟨3, ![2, 512, 10240]⟩
abbrev S2x512x1024 : Shape := ⟨3, ![2, 512, 1024]⟩
abbrev S2x512x8x128 : Shape := ⟨4, ![2, 512, 8, 128]⟩
abbrev S64 : Shape := ⟨1, ![64]⟩
abbrev S2x512x1 : Shape := ⟨3, ![2, 512, 1]⟩
abbrev S1x1x64 : Shape := ⟨3, ![1, 1, 64]⟩
abbrev S2x512x1x64 : Shape := ⟨4, ![2, 512, 1, 64]⟩
abbrev S2x512x64x64 : Shape := ⟨4, ![2, 512, 64, 64]⟩
abbrev S2x512x8x64 : Shape := ⟨4, ![2, 512, 8, 64]⟩

abbrev nBuf : Space → Nat
  | .hbm => 124
  | .vmem => 5
  | .smem => 0
  | _ => 0

abbrev bufTy : (tb : Table) → Fin (tcTables nBuf tb) → BufTy
  | .hbm, ⟨0, _⟩ => ⟨S2x512x8192, .bf16⟩
  | .hbm, ⟨1, _⟩ => ⟨S2x512, .i32⟩
  | .hbm, ⟨2, _⟩ => ⟨S8192x10240, .fp8e4m3⟩
  | .hbm, ⟨3, _⟩ => ⟨S64x80, .f32⟩
  | .hbm, ⟨4, _⟩ => ⟨S2x512x8192, .f32⟩
  | .hbm, ⟨5, _⟩ => ⟨S2x512x64x128, .f32⟩
  | .hbm, ⟨6, _⟩ => ⟨S2x512x64x128, .f32⟩
  | .hbm, ⟨7, _⟩ => ⟨S_, .f32⟩
  | .hbm, ⟨8, _⟩ => ⟨S2x512x64, .f32⟩
  | .hbm, ⟨9, _⟩ => ⟨S_, .f32⟩
  | .hbm, ⟨10, _⟩ => ⟨S2x512x64, .f32⟩
  | .hbm, ⟨11, _⟩ => ⟨S2x512x64, .f32⟩
  | .hbm, ⟨12, _⟩ => ⟨S2x512x64, .f32⟩
  | .hbm, ⟨13, _⟩ => ⟨S_, .f32⟩
  | .hbm, ⟨14, _⟩ => ⟨S2x512x64, .f32⟩
  | .hbm, ⟨15, _⟩ => ⟨S2x512x64, .f32⟩
  | .hbm, ⟨16, _⟩ => ⟨S2x512x64, .f32⟩
  | .hbm, ⟨17, _⟩ => ⟨S_, .f32⟩
  | .hbm, ⟨18, _⟩ => ⟨S2x512x64, .f32⟩
  | .hbm, ⟨19, _⟩ => ⟨S2x512x64, .i1⟩
  | .hbm, ⟨20, _⟩ => ⟨S2x512x64, .f32⟩
  | .hbm, ⟨21, _⟩ => ⟨S_, .f32⟩
  | .hbm, ⟨22, _⟩ => ⟨S2x512x64, .f32⟩
  | .hbm, ⟨23, _⟩ => ⟨S2x512x64, .f32⟩
  | .hbm, ⟨24, _⟩ => ⟨S_, .f32⟩
  | .hbm, ⟨25, _⟩ => ⟨S_, .f32⟩
  | .hbm, ⟨26, _⟩ => ⟨S2x512x64, .f32⟩
  | .hbm, ⟨27, _⟩ => ⟨S2x512x64, .f32⟩
  | .hbm, ⟨28, _⟩ => ⟨S_, .f32⟩
  | .hbm, ⟨29, _⟩ => ⟨S2x512x64, .f32⟩
  | .hbm, ⟨30, _⟩ => ⟨S2x512x64, .f32⟩
  | .hbm, ⟨31, _⟩ => ⟨S2x512x64, .f32⟩
  | .hbm, ⟨32, _⟩ => ⟨S2x512x64x1, .f32⟩
  | .hbm, ⟨33, _⟩ => ⟨S2x512x64x128, .f32⟩
  | .hbm, ⟨34, _⟩ => ⟨S2x512x64x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S2x512x64x128, .f32⟩
  | .hbm, ⟨39, _⟩ => ⟨S2x512x64x128, .f32⟩
  | .hbm, ⟨40, _⟩ => ⟨S_, .f32⟩
  | .hbm, ⟨41, _⟩ => ⟨S2x512x64x128, .f32⟩
  | .hbm, ⟨42, _⟩ => ⟨S2x512x64x128, .f32⟩
  | .hbm, ⟨43, _⟩ => ⟨S2x512x8192, .f32⟩
  | .hbm, ⟨44, _⟩ => ⟨S2x512x64, .f32⟩
  | .hbm, ⟨45, _⟩ => ⟨S2x512x8192, .fp8e4m3⟩
  | .hbm, ⟨46, _⟩ => ⟨S2x512x8192, .bf16⟩
  | .hbm, ⟨47, _⟩ => ⟨S8192x10240, .bf16⟩
  | .hbm, ⟨48, _⟩ => ⟨S2x512x64x128, .bf16⟩
  | .hbm, ⟨49, _⟩ => ⟨S2x512x64, .bf16⟩
  | .hbm, ⟨50, _⟩ => ⟨S2x512x64x1, .bf16⟩
  | .hbm, ⟨51, _⟩ => ⟨S2x512x64x128, .bf16⟩
  | .hbm, ⟨52, _⟩ => ⟨S2x512x64x128, .bf16⟩
  | .hbm, ⟨53, _⟩ => ⟨S2x512x8192, .bf16⟩
  | .hbm, ⟨54, _⟩ => ⟨S64x128x80x128, .bf16⟩
  | .hbm, ⟨55, _⟩ => ⟨S64x80, .bf16⟩
  | .hbm, ⟨56, _⟩ => ⟨S64x1x80x1, .bf16⟩
  | .hbm, ⟨57, _⟩ => ⟨S64x128x80x128, .bf16⟩
  | .hbm, ⟨58, _⟩ => ⟨S64x128x80x128, .bf16⟩
  | .hbm, ⟨59, _⟩ => ⟨S8192x10240, .bf16⟩
  | .hbm, ⟨60, _⟩ => ⟨S2x512x10240, .f32⟩
  | .hbm, ⟨61, _⟩ => ⟨S2x512x8192, .f32⟩
  | .hbm, ⟨62, _⟩ => ⟨S2x512x64x128, .f32⟩
  | .hbm, ⟨63, _⟩ => ⟨S2x512x1024, .f32⟩
  | .hbm, ⟨64, _⟩ => ⟨S2x512x8x128, .f32⟩
  | .hbm, ⟨65, _⟩ => ⟨S2x512x1024, .f32⟩
  | .hbm, ⟨66, _⟩ => ⟨S2x512x8x128, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S2x512, .f32⟩
  | .hbm, ⟨84, _⟩ => ⟨S2x512x1, .f32⟩
  | .hbm, ⟨85, _⟩ => ⟨S1x1x64, .f32⟩
  | .hbm, ⟨86, _⟩ => ⟨S2x512x64, .f32⟩
  | .hbm, ⟨87, _⟩ => ⟨S2x512x64, .f32⟩
  | .hbm, ⟨88, _⟩ => ⟨S2x512x64, .f32⟩
  | .hbm, ⟨89, _⟩ => ⟨S2x512x64, .f32⟩
  | .hbm, ⟨90, _⟩ => ⟨S2x512x64, .f32⟩
  | .hbm, ⟨91, _⟩ => ⟨S2x512x1x64, .f32⟩
  | .hbm, ⟨92, _⟩ => ⟨S2x512x1x64, .f32⟩
  | .hbm, ⟨93, _⟩ => ⟨S2x512x64x64, .f32⟩
  | .hbm, ⟨94, _⟩ => ⟨S2x512x64x64, .f32⟩
  | .hbm, ⟨95, _⟩ => ⟨S2x512x64x64, .f32⟩
  | .hbm, ⟨96, _⟩ => ⟨S2x512x64x64, .f32⟩
  | .hbm, ⟨97, _⟩ => ⟨S2x512x64x64, .f32⟩
  | .hbm, ⟨98, _⟩ => ⟨S2x512x64x64, .f32⟩
  | .hbm, ⟨99, _⟩ => ⟨S2x512x64x64, .f32⟩
  | .hbm, ⟨100, _⟩ => ⟨S2x512x64x64, .f32⟩
  | .hbm, ⟨101, _⟩ => ⟨S2x512x64x64, .f32⟩
  | .hbm, ⟨102, _⟩ => ⟨S2x512x64x64, .f32⟩
  | .hbm, ⟨103, _⟩ => ⟨S2x512x64x64, .f32⟩
  | .hbm, ⟨104, _⟩ => ⟨S2x512x64x64, .f32⟩
  | .hbm, ⟨105, _⟩ => ⟨S2x512x64x128, .f32⟩
  | .hbm, ⟨106, _⟩ => ⟨S2x512x64x128, .bf16⟩
  | .hbm, ⟨107, _⟩ => ⟨S2x512x1x64, .f32⟩
  | .hbm, ⟨108, _⟩ => ⟨S2x512x1x64, .f32⟩
  | .hbm, ⟨109, _⟩ => ⟨S2x512x8x64, .f32⟩
  | .hbm, ⟨110, _⟩ => ⟨S2x512x8x64, .f32⟩
  | .hbm, ⟨111, _⟩ => ⟨S2x512x8x64, .f32⟩
  | .hbm, ⟨112, _⟩ => ⟨S2x512x8x64, .f32⟩
  | .hbm, ⟨113, _⟩ => ⟨S2x512x8x64, .f32⟩
  | .hbm, ⟨114, _⟩ => ⟨S2x512x8x64, .f32⟩
  | .hbm, ⟨115, _⟩ => ⟨S2x512x8x64, .f32⟩
  | .hbm, ⟨116, _⟩ => ⟨S2x512x8x64, .f32⟩
  | .hbm, ⟨117, _⟩ => ⟨S2x512x8x64, .f32⟩
  | .hbm, ⟨118, _⟩ => ⟨S2x512x8x64, .f32⟩
  | .hbm, ⟨119, _⟩ => ⟨S2x512x8x64, .f32⟩
  | .hbm, ⟨120, _⟩ => ⟨S2x512x8x64, .f32⟩
  | .hbm, ⟨121, _⟩ => ⟨S2x512x8x128, .f32⟩
  | .hbm, ⟨122, _⟩ => ⟨S2x512x8x128, .bf16⟩
  | .hbm, ⟨123, _⟩ => ⟨S2x512x8x128, .bf16⟩
  | .local _ .vmem, ⟨0, _⟩ => ⟨S2x512x8192, .f32⟩
  | .local _ .vmem, ⟨1, _⟩ => ⟨S8192x10240, .fp8e4m3⟩
  | .local _ .vmem, ⟨2, _⟩ => ⟨S2x512x8192, .fp8e4m3⟩
  | .local _ .vmem, ⟨3, _⟩ => ⟨S2x512x8192, .bf16⟩
  | .local _ .vmem, ⟨4, _⟩ => ⟨S8192x10240, .bf16⟩
  | _, _ => ⟨S2x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25_0 : Ref sig .tc := ⟨.hbm, 45, rfl⟩
abbrev main_v25_1 : Ref sig .tc := ⟨.hbm, 46, rfl⟩
abbrev main_v25_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x10240 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x10240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
/- The kernel program's run: every unscoped buffer ends at the fold through @main. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each unscoped buffer at the fold's contents. -/
theorem run_folds : θ_run defs (onTc (τ := τ) (main (F := F))) ⟨m, fun _ => 0, ρ⟩ (fun r => (∀ c : Dev nD, ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

end Cert.KernelIdeal.Gen

end
-- ==== Proof.ProjPieces.lean ====
/- The projection call's output block: each tile of weights, each strip and each chunk of the contraction is treated
   alike. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- A weight tile stays inside the block of weights. -/
theorem inb_tile (r : Fin 64) (n : Fin 4) : ∀ a, (![128 * r.val, 128 * n.val] : Fin 2 → Nat) a + S128x128.size a ≤ S8192x512.size a := by
  intro a; fin_cases a
  · show 128 * r.val + 128 ≤ 8192; omega
  · show 128 * n.val + 128 ≤ 512; omega

/-- The column of a weight tile's scale: four per grid point. -/
abbrev wordCol (i : grid1.Coords) (n : Fin 4) : Nat :=
  (Scalar.addi (Scalar.muli (BitVec.ofNat 32 (i 0).val) 4#32) (BitVec.ofNat 32 n.val)).toNat

/-- The column of a weight tile's scale as a number. -/
theorem wordCol_eq (i : grid1.Coords) (n : Fin 4) : wordCol i n = 4 * (i 0).val + n.val := by
  have hi : (i 0).val < 20 := (i 0).isLt
  simp only [wordCol, Scalar.addi, Scalar.muli, IntOp.addi, IntOp.muli, BitVec.toNat_add, BitVec.toNat_mul, BitVec.toNat_ofNat]
  have := n.isLt
  omega

/-- A weight tile's scale stays inside the table of scales. -/
theorem inb_word (i : grid1.Coords) (r : Fin 64) (n : Fin 4) : ∀ a, (![r.val, wordCol i n] : Fin 2 → Nat) a + S1x1.size a ≤ S64x80.size a := by
  have hi : (i 0).val < 20 := (i 0).isLt
  intro a; fin_cases a
  · show r.val + 1 ≤ 64; omega
  · show wordCol i n + 1 ≤ 80; rw [wordCol_eq]; omega

/-- One chunk of the contraction stays inside the activations. -/
theorem inb_chunk (k : Fin 8) : ∀ a, (![0, 1024 * k.val] : Fin 2 → Nat) a + S1024x1024.size a ≤ S1024x8192.size a := by
  intro a; fin_cases a
  · show 0 + 1024 ≤ 1024; omega
  · show 1024 * k.val + 1024 ≤ 8192; omega

/-- One head's columns stay inside the output block. -/
theorem inb_head (n : Fin 4) : ∀ a, (![0, 128 * n.val] : Fin 2 → Nat) a + S1024x128.size a ≤ S1024x512.size a := by
  intro a; fin_cases a
  · show 0 + 1024 ≤ 1024; omega
  · show 128 * n.val + 128 ≤ 512; omega

/-- A weight tile times its scale. -/
def tile (i : grid1.Coords) (X1 : Vec Ideal S8192x512 .fp8e4m3) (X2 : Vec Ideal S64x80 .f32) (r : Fin 64) (n : Fin 4) : FVec Ideal S128x128 .bf16 :=
  mulf (extf .bf16 (View.ld X1 (Rect.unit (s := S8192x512) ![128 * r.val, 128 * n.val] S128x128.size (inb_tile r n)) : FVec Ideal S128x128 .fp8e4m3) bitsLt_fp8e4m3_bf16)
    (truncf .bf16 (broadcast S128x128 (View.ld X2 (Rect.unit (s := S64x80) ![r.val, wordCol i n] S1x1.size (inb_word i r n)) (Shape.Idx.first (s := S1x1) (by decide)) : Elt Ideal .f32) : FVec Ideal S128x128 .f32) bitsLt_bf16_f32)

/-- A strip of 128 rows of scaled weights. -/
def strip (i : grid1.Coords) (X1 : Vec Ideal S8192x512 .fp8e4m3) (X2 : Vec Ideal S64x80 .f32) (r : Fin 64) : FVec Ideal S128x512 .bf16 :=
  concatenate S128x512 1 [⟨S128x128, tile i X1 X2 r 0⟩, ⟨S128x128, tile i X1 X2 r 1⟩, ⟨S128x128, tile i X1 X2 r 2⟩, ⟨S128x128, tile i X1 X2 r 3⟩] concatenates_S128x128_S128x128_S128x128_S128x128_S128x512_d1

/-- The strip `e` of chunk `k`. -/
abbrev stripOf (k e : Fin 8) : Fin 64 := ⟨8 * k.val + e.val, by omega⟩

/-- A chunk of 1024 rows of scaled weights. -/
def chunk (i : grid1.Coords) (X1 : Vec Ideal S8192x512 .fp8e4m3) (X2 : Vec Ideal S64x80 .f32) (k : Fin 8) : FVec Ideal S1024x512 .bf16 :=
  concatenate S1024x512 0 [⟨S128x512, strip i X1 X2 (stripOf k 0)⟩, ⟨S128x512, strip i X1 X2 (stripOf k 1)⟩, ⟨S128x512, strip i X1 X2 (stripOf k 2)⟩, ⟨S128x512, strip i X1 X2 (stripOf k 3)⟩, ⟨S128x512, strip i X1 X2 (stripOf k 4)⟩, ⟨S128x512, strip i X1 X2 (stripOf k 5)⟩, ⟨S128x512, strip i X1 X2 (stripOf k 6)⟩, ⟨S128x512, strip i X1 X2 (stripOf k 7)⟩] concatenates_S128x512_S128x512_S128x512_S128x512_S128x512_S128x512_S128x512_S128x512_S1024x512_d0

/-- One chunk's contribution to the product. -/
def term (i : grid1.Coords) (X0 : Vec Ideal S1024x8192 .bf16) (X1 : Vec Ideal S8192x512 .fp8e4m3) (X2 : Vec Ideal S64x80 .f32) (k : Fin 8) : FVec Ideal S1024x512 .f32 :=
  matmul dot_S1024x1024_S1024x512_S1024x512_1_0_0_1_n_n none
    (show FVec Ideal S1024x1024 .bf16 from shapeCast S1024x1024 (show FVec Ideal S1024x1024 .bf16 from View.ld X0 (Rect.unit (s := S1024x8192) ![0, 1024 * k.val] S1024x1024.size (inb_chunk k))) shapeCasts_S1024x1024_S1024x1024)
    (chunk i X1 X2 k) (constant S1024x512 .f32 0x00000000#32 : FVec Ideal S1024x512 .f32)

/-- The product: the chunks' contributions, one after the other. -/
def proj (i : grid1.Coords) (X0 : Vec Ideal S1024x8192 .bf16) (X1 : Vec Ideal S8192x512 .fp8e4m3) (X2 : Vec Ideal S64x80 .f32) : FVec Ideal S1024x512 .f32 :=
  addf (addf (addf (addf (addf (addf (addf (addf (k1_pay2 (F := Ideal))
    (term i X0 X1 X2 0)) (term i X0 X1 X2 1)) (term i X0 X1 X2 2)) (term i X0 X1 X2 3)) (term i X0 X1 X2 4)) (term i X0 X1 X2 5)) (term i X0 X1 X2 6)) (term i X0 X1 X2 7)

/-- One head of the product, rotated by its row's angle unless the block holds values. -/
def head (i : grid1.Coords) (T : FVec Ideal S1024x128 .f32) (X3 X4 : Vec Ideal S1024x128 .f32) : FVec Ideal S1024x128 .bf16 :=
  k1_pay207 (kernelRun1_A.sl.v2409 i) T
    (View.ld X3 (Rect.unit ![0, 0] S1024x128.size inb_S1024x128_S1024x128_0_0)) (View.ld X4 (Rect.unit ![0, 0] S1024x128.size inb_S1024x128_S1024x128_0_0))

/-- The output block: its four heads. -/
def projPieces (i : grid1.Coords) (X0 : Vec Ideal S1024x8192 .bf16) (X1 : Vec Ideal S8192x512 .fp8e4m3) (X2 : Vec Ideal S64x80 .f32) (X3 X4 : Vec Ideal S1024x128 .f32) : List (View.Piece (Elt Ideal) S1024x512 .bf16) :=
  [⟨Rect.unit (s := S1024x512) ![0, 384] S1024x128.size inb_S1024x512_S1024x128_0_384, head i (extractStridedSlice S1024x128 ![0, 384] (proj i X0 X1 X2) slices_S1024x512_o0_384_S1024x128) X3 X4⟩,
   ⟨Rect.unit (s := S1024x512) ![0, 256] S1024x128.size inb_S1024x512_S1024x128_0_256, head i (extractStridedSlice S1024x128 ![0, 256] (proj i X0 X1 X2) slices_S1024x512_o0_256_S1024x128) X3 X4⟩,
   ⟨Rect.unit (s := S1024x512) ![0, 128] S1024x128.size inb_S1024x512_S1024x128_0_128, head i (extractStridedSlice S1024x128 ![0, 128] (proj i X0 X1 X2) slices_S1024x512_o0_128_S1024x128) X3 X4⟩,
   ⟨Rect.unit (s := S1024x512) ![0, 0] S1024x128.size inb_S1024x512_S1024x128_0_0, head i (extractStridedSlice S1024x128 ![0, 0] (proj i X0 X1 X2) slices_S1024x512_o0_0_S1024x128) X3 X4⟩]

/-- What the projection call leaves in its output block. -/
theorem proj_pieces (c : Dev nD) (i : grid1.Coords) (arg1 : Memref sig .tc .vmem S1024x8192 .bf16) (harg1 : arg1.IsWhole) (arg2 : Memref sig .tc .vmem S8192x512 .fp8e4m3) (harg2 : arg2.IsWhole) (arg3 : Memref sig .tc .smem S64x80 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x512 .bf16) (harg6 : arg6.IsWhole)
    (x0 : Vec Ideal S1024x8192 .bf16) (x1 : Vec Ideal S8192x512 .fp8e4m3) (x2 : Vec Ideal S64x80 .f32) (x3 : Vec Ideal S1024x128 .f32) (x4 : Vec Ideal S1024x128 .f32) :
    out1_A_5 (F := Ideal) c i arg1 harg1 arg2 harg2 arg3 harg3 arg4 harg4 arg5 harg5 arg6 harg6 x0 x1 x2 x3 x4 = View.canon (projPieces i x0 x1 x2 x3 x4) := by
  have h : (kernelRun1_A (F := Ideal) c i arg1 harg1 arg2 harg2 arg3 harg3 arg4 harg4 arg5 harg5 arg6 harg6 x0 x1 x2 x3 x4).1
      = projPieces i (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) := by
    chain_rfl
  rw [Memref.IsWhole.read_unread, Memref.IsWhole.read_unread, Memref.IsWhole.read_unread, Memref.IsWhole.read_unread, Memref.IsWhole.read_unread] at h
  unfold out1_A_5
  rw [View.read_writes_junk_eq_canon, h]

end Cert.KernelIdeal.Value

end
-- ==== Proof.ProjValue.lean ====
/- The projection call's output block at an index. -/
module

public import proofs.«01_k».proof.Proof.ProjPieces

@[expose] public section

set_option maxRecDepth 16384

noncomputable section

namespace Cert.KernelIdeal.Value

open Idealize.ShloMosaic Idealize.ShloMosaic.TcCoe Idealize.SL.Sem
open Cert.KernelIdeal Cert.KernelIdeal.Gen

/-- The first grid coordinate of the projection call is below 20. -/
theorem coord_lt (i : grid1.Coords) : (i 0).val < 20 := (i 0).isLt

/-- A scaled weight of a tile. -/
theorem tile_at (i : grid1.Coords) (X1 : Vec Ideal S8192x512 .fp8e4m3) (X2 : Vec Ideal S64x80 .f32) (r : Fin 64) (n : Fin 4) (x y : Fin 128) :
    tile i X1 X2 r n (ix2 x y) = X1 (ix2 ⟨128 * r.val + x.val, by omega⟩ ⟨128 * n.val + y.val, by omega⟩)
      * X2 (ix2 r ⟨4 * (i 0).val + n.val, by have := coord_lt i; omega⟩) := by
  pointwise [tile]
  refine congrArg (_ * ·) (congrArg X2 (congrArg (ix2 r) (Fin.ext ?_)))
  exact wordCol_eq i n

/-- A scaled weight of a strip. -/
theorem strip_at (i : grid1.Coords) (X1 : Vec Ideal S8192x512 .fp8e4m3) (X2 : Vec Ideal S64x80 .f32) (r : Fin 64) (x : Fin 128) (y : Fin 512) :
    strip i X1 X2 r (ix2 x y) = X1 (ix2 ⟨128 * r.val + x.val, by omega⟩ y)
      * X2 (ix2 r ⟨4 * (i 0).val + y.val / 128, by have := coord_lt i; omega⟩) := by
  pointwise [strip]
  split_ifs <;> (rw [tile_at]; refine congrArg₂ (fun a b : EReal => a * b) (congrArg X1 (congrArg (ix2 _) (Fin.ext ?_))) (congrArg X2 (congrArg (ix2 r) (Fin.ext ?_)))) <;>
    simp <;> omega

/-- A scaled weight of a chunk. -/
theorem chunk_at (i : grid1.Coords) (X1 : Vec Ideal S8192x512 .fp8e4m3) (X2 : Vec Ideal S64x80 .f32) (k : Fin 8) (x : Fin 1024) (y : Fin 512) :
    chunk i X1 X2 k (ix2 x y) = X1 (ix2 ⟨k.val * 1024 + x.val, by omega⟩ y)
      * X2 (ix2 ⟨(k.val * 1024 + x.val) / 128, by omega⟩ ⟨4 * (i 0).val + y.val / 128, by have := coord_lt i; omega⟩) := by
  pointwise [chunk]
  split_ifs <;> (rw [strip_at]; refine congrArg₂ (fun a b : EReal => a * b) (congrArg X1 (congrArg (ix2 · y) (Fin.ext ?_))) (congrArg X2 (congrArg (ix2 · _) (Fin.ext ?_)))) <;>
    simp [stripOf] <;> omega

/-- The product of the activations and the scaled weights, at an index. -/
def dotAt (j : Fin 20) (X0 : Vec Ideal S1024x8192 .bf16) (X1 : Vec Ideal S8192x512 .fp8e4m3) (X2 : Vec Ideal S64x80 .f32) (x : Fin 1024) (y : Fin 512) : EReal :=
  ∑ k : Fin 8192, X0 (ix2 x k) * (X1 (ix2 k y) * X2 (ix2 ⟨k.val / 128, by omega⟩ ⟨4 * j.val + y.val / 128, by omega⟩))

/-- The chunks' contributions sum to the whole product. -/
theorem proj_at (i : grid1.Coords) (X0 : Vec Ideal S1024x8192 .bf16) (X1 : Vec Ideal S8192x512 .fp8e4m3) (X2 : Vec Ideal S64x80 .f32) (x : Fin 1024) (y : Fin 512) :
    proj i X0 X1 X2 (ix2 x y) = dotAt ⟨(i 0).val, coord_lt i⟩ X0 X1 X2 x y := by
  have ht : ∀ k : Fin 8, term i X0 X1 X2 k (ix2 x y) = ∑ e : Fin 1024, X0 (ix2 x ⟨k.val * 1024 + e.val, by omega⟩)
      * (X1 (ix2 ⟨k.val * 1024 + e.val, by omega⟩ y) * X2 (ix2 ⟨(k.val * 1024 + e.val) / 128, by omega⟩ ⟨4 * (i 0).val + y.val / 128, by have := coord_lt i; omega⟩)) := by
    intro k
    pointwise [term]
    refine Finset.sum_congr rfl fun e _ => ?_
    rw [chunk_at]
    refine congrArg₂ (fun a b : EReal => a * b) (congrArg X0 (congrArg (ix2 x) (Fin.ext ?_))) rfl
    show 1024 * k.val + e.val = k.val * 1024 + e.val
    omega
  have hp : proj i X0 X1 X2 (ix2 x y) = ∑ k : Fin 8, term i X0 X1 X2 k (ix2 x y) := by
    rw [Fin.sum_univ_eight]
    pointwise [proj, k1_pay2]
  rw [hp, dotAt, Fin.sum_univ_tiles 8 1024 rfl]
  exact Finset.sum_congr rfl fun k _ => ht k

/-- One head's value: as it is, or rotated. -/
theorem head_at (i : grid1.Coords) (T : FVec Ideal S1024x128 .f32) (X3 X4 : Vec Ideal S1024x128 .f32) (x : Fin 1024) (y : Fin 128) :
    head i T X3 X4 (ix2 x y) = if 18 ≤ (i 0).val then T (ix2 x y)
      else T (ix2 x y) * X3 (ix2 x y) + T (ix2 x ⟨(y.val + 64) % 128, by omega⟩) * X4 (ix2 x y) := by
  have h18 : kernelRun1_A.sl.v2409 i = if 18 ≤ (i 0).val then 1#1 else 0#1 := by
    have h : ∀ j : Fin 20, Scalar.cmpi .sge (BitVec.ofNat 32 j.val) 18#32 = if 18 ≤ j.val then 1#1 else 0#1 := by decide
    exact h ⟨(i 0).val, coord_lt i⟩
  pointwise [head, k1_pay207]
  rw [h18]
  have hr : (⟨(y.val + 128 - 64) % 128, by omega⟩ : Fin 128) = ⟨(y.val + 64) % 128, by omega⟩ := Fin.ext (by simp only []; omega)
  rw [hr]
  split_ifs <;> rfl

/-- The value of an output block's index: the product, rotated by its row's angle unless the block holds values. -/
def projAt (j : Fin 20) (X0 : Vec Ideal S1024x8192 .bf16) (X1 : Vec Ideal S8192x512 .fp8e4m3) (X2 : Vec Ideal S64x80 .f32) (X3 X4 : Vec Ideal S1024x128 .f32) (x : Fin 1024) (y : Fin 512) : EReal :=
  if 18 ≤ j.val then dotAt j X0 X1 X2 x y
  else dotAt j X0 X1 X2 x y * X3 (ix2 x ⟨y.val % 128, by omega⟩)
    + dotAt j X0 X1 X2 x ⟨y.val / 128 * 128 + (y.val % 128 + 64) % 128, by omega⟩ * X4 (ix2 x ⟨y.val % 128, by omega⟩)

/-- What the projection call leaves in its output block, at an index. -/
theorem projPieces_at (i : grid1.Coords) (X0 : Vec Ideal S1024x8192 .bf16) (X1 : Vec Ideal S8192x512 .fp8e4m3) (X2 : Vec Ideal S64x80 .f32) (X3 X4 : Vec Ideal S1024x128 .f32) (y : S1024x512.Idx) :
    View.canon (projPieces i X0 X1 X2 X3 X4) y = projAt ⟨(i 0).val, coord_lt i⟩ X0 X1 X2 X3 X4 (y 0) (y 1) := by
  have key : ∀ (n : Fin 4) (h : S1024x512.Slices ![0, 128 * n.val] S1024x128) (x : S1024x128.Idx),
      head i (extractStridedSlice S1024x128 ![0, 128 * n.val] (proj i X0 X1 X2) h) X3 X4 x
        = projAt ⟨(i 0).val, coord_lt i⟩ X0 X1 X2 X3 X4 ⟨(x 0).val, (x 0).isLt⟩ ⟨128 * n.val + (x 1).val, by have : (x 1).val < 128 := (x 1).isLt; omega⟩ := by
    intro n h x
    idx_vars x
    have he : ∀ z : Fin 128, extractStridedSlice S1024x128 ![0, 128 * n.val] (proj i X0 X1 X2) h (ix2 x0 z)
        = dotAt ⟨(i 0).val, coord_lt i⟩ X0 X1 X2 x0 ⟨128 * n.val + z.val, by omega⟩ := by
      intro z
      rw [← proj_at]
      refine congrArg (proj i X0 X1 X2) ?_
      idx_ext
    rw [head_at, he, he]
    unfold projAt
    have e1 : (⟨(128 * n.val + x1.val) % 128, by omega⟩ : Fin 128) = x1 := Fin.ext (by simp only []; omega)
    have e2 : (⟨(128 * n.val + x1.val) / 128 * 128 + ((128 * n.val + x1.val) % 128 + 64) % 128, by omega⟩ : Fin 512)
        = ⟨128 * n.val + (x1.val + 64) % 128, by omega⟩ := Fin.ext (by simp only []; omega)
    simp only [e1, e2]
  refine View.canon_apply_of_pieces (Val := Elt Ideal) (S := S1024x512) (e := .bf16) (fun y : S1024x512.Idx => projAt ⟨(i 0).val, coord_lt i⟩ X0 X1 X2 X3 X4 (y 0) (y 1)) _ ?_ y ?_
  · intro p hp x
    simp only [projPieces, List.mem_cons, List.not_mem_nil, or_false] at hp
    rcases hp with rfl | rfl | rfl | rfl
    · refine (key 3 _ x).trans (congrArg₂ (projAt _ X0 X1 X2 X3 X4) (Fin.ext ?_) (Fin.ext ?_))
      · show (x 0).val = 0 + 1 * (x 0).val; omega
      · show 128 * 3 + (x 1).val = 384 + 1 * (x 1).val; omega
    · refine (key 2 _ x).trans (congrArg₂ (projAt _ X0 X1 X2 X3 X4) (Fin.ext ?_) (Fin.ext ?_))
      · show (x 0).val = 0 + 1 * (x 0).val; omega
      · show 128 * 2 + (x 1).val = 256 + 1 * (x 1).val; omega
    · refine (key 1 _ x).trans (congrArg₂ (projAt _ X0 X1 X2 X3 X4) (Fin.ext ?_) (Fin.ext ?_))
      · show (x 0).val = 0 + 1 * (x 0).val; omega
      · show 128 * 1 + (x 1).val = 128 + 1 * (x 1).val; omega
    · refine (key 0 _ x).trans (congrArg₂ (projAt _ X0 X1 X2 X3 X4) (Fin.ext ?_) (Fin.ext ?_))
      · show (x 0).val = 0 + 1 * (x 0).val; omega
      · show 128 * 0 + (x 1).val = 0 + 1 * (x 1).val; omega
  · exact View.cover_of_tiledL (projPieces i X0 X1 X2 X3 X4) S1024x128.size (by sl_kernel_rfl) y

end Cert.KernelIdeal.Value

end
-- ==== Proof.ProjArray.lean ====
/- The projection call's result array. -/
module

public import proofs.«01_k».proof.Proof.ProjValue

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- The whole product at an index. -/
def prodAt (X : FVec Ideal S1024x8192 .bf16) (W : FVec Ideal S8192x10240 .fp8e4m3) (S : FVec Ideal S64x80 .f32) (x : Fin 1024) (y : Fin 10240) : EReal :=
  ∑ k : Fin 8192, X (ix2 x k) * (W (ix2 k y) * S (ix2 ⟨k.val / 128, by omega⟩ ⟨y.val / 128, by omega⟩))

/-- The projection call's result at an index: the product, rotated by its row's angle up to column 9215. -/
def resultAt (X : FVec Ideal S1024x8192 .bf16) (W : FVec Ideal S8192x10240 .fp8e4m3) (S : FVec Ideal S64x80 .f32) (C D : FVec Ideal S1024x128 .f32) (x : Fin 1024) (y : Fin 10240) : EReal :=
  if 9216 ≤ y.val then prodAt X W S x y
  else prodAt X W S x y * C (ix2 x ⟨y.val % 128, by omega⟩)
    + prodAt X W S x ⟨y.val / 128 * 128 + (y.val % 128 + 64) % 128, by omega⟩ * D (ix2 x ⟨y.val % 128, by omega⟩)

variable (V : (c : Dev nD) → (b : Ref sig .tc) → Buf (Elt Ideal) ((c : Thread nD τ).loc b))

/-- The blocks' places in their arrays, at every grid point. -/
theorem idx1 : ∀ t : Fin cfg1.N, win1_0.index t = ![0, 0] ∧ win1_1.index t = ![0, t.val] ∧ win1_2.index t = ![0, 0]
    ∧ win1_3.index t = ![0, 0] ∧ win1_4.index t = ![0, 0] ∧ win1_5.index t = ![0, t.val] ∧ (grid1.coords t 0).val = t.val ∧ t.val < 20 :=
  (by decide +kernel : ∀ t : Fin grid1.N, _)

/-- The activations' block is the array. -/
theorem iblk1_0 (c : Dev nD) (t : Fin cfg1.N) (x : Fin 1024) (k : Fin 8192) : (show FVec Ideal S1024x8192 .bf16 from iblk1 (F := Ideal) V c 0 t) (ix2 x k) = (show FVec Ideal S1024x8192 .bf16 from V c main_v1_2) (ix2 x k) := by
  blk_ext [iblk1, idx1 t]

/-- The weights' block is the point's 512 columns. -/
theorem iblk1_1 (c : Dev nD) (t : Fin cfg1.N) (k : Fin 8192) (y : Fin 512) : (show FVec Ideal S8192x512 .fp8e4m3 from iblk1 (F := Ideal) V c 1 t) (ix2 k y) = (show FVec Ideal S8192x10240 .fp8e4m3 from V c main_arg2) (ix2 k ⟨512 * t.val + y.val, by have := (idx1 t).2.2.2.2.2.2.2; omega⟩) := by
  blk_ext [iblk1, idx1 t]

/-- The scales' block is the array. -/
theorem iblk1_2 (c : Dev nD) (t : Fin cfg1.N) (k : Fin 64) (y : Fin 80) : (show FVec Ideal S64x80 .f32 from iblk1 (F := Ideal) V c 2 t) (ix2 k y) = (show FVec Ideal S64x80 .f32 from V c main_arg3) (ix2 k y) := by
  blk_ext [iblk1, idx1 t]

/-- The cosines' block is the array. -/
theorem iblk1_3 (c : Dev nD) (t : Fin cfg1.N) (k : Fin 1024) (y : Fin 128) : (show FVec Ideal S1024x128 .f32 from iblk1 (F := Ideal) V c 3 t) (ix2 k y) = (show FVec Ideal S1024x128 .f32 from V c main_v22) (ix2 k y) := by
  blk_ext [iblk1, idx1 t]

/-- The sines' block is the array. -/
theorem iblk1_4 (c : Dev nD) (t : Fin cfg1.N) (k : Fin 1024) (y : Fin 128) : (show FVec Ideal S1024x128 .f32 from iblk1 (F := Ideal) V c 4 t) (ix2 k y) = (show FVec Ideal S1024x128 .f32 from V c main_v24) (ix2 k y) := by
  blk_ext [iblk1, idx1 t]

/-- A block's value is the array's value at the block's place. -/
theorem projAt_eq (j : Fin 20) (X0 X : FVec Ideal S1024x8192 .bf16) (X1 : FVec Ideal S8192x512 .fp8e4m3) (W : FVec Ideal S8192x10240 .fp8e4m3) (X2 S : FVec Ideal S64x80 .f32) (X3 X4 C D : FVec Ideal S1024x128 .f32)
    (h0 : ∀ x k, X0 (ix2 x k) = X (ix2 x k)) (h1 : ∀ k (y : Fin 512), X1 (ix2 k y) = W (ix2 k ⟨512 * j.val + y.val, by omega⟩)) (h2 : ∀ k y, X2 (ix2 k y) = S (ix2 k y))
    (h3 : ∀ k y, X3 (ix2 k y) = C (ix2 k y)) (h4 : ∀ k y, X4 (ix2 k y) = D (ix2 k y)) (x : Fin 1024) (y : Fin 512) :
    projAt j X0 X1 X2 X3 X4 x y = resultAt X W S C D x ⟨512 * j.val + y.val, by omega⟩ := by
  have hd : ∀ y : Fin 512, dotAt j X0 X1 X2 x y = prodAt X W S x ⟨512 * j.val + y.val, by omega⟩ := by
    intro y
    refine Finset.sum_congr rfl fun k _ => ?_
    rw [h0, h1, h2]
    refine congrArg (_ * ·) (congrArg (_ * ·) (congrArg S (congrArg (ix2 _) (Fin.ext ?_))))
    simp only []; omega
  unfold projAt resultAt
  rw [hd, hd, h3, h4]
  have e1 : (⟨y.val % 128, by omega⟩ : Fin 128) = ⟨(512 * j.val + y.val) % 128, by omega⟩ := Fin.ext (by simp only []; omega)
  have e2 : (⟨512 * j.val + (y.val / 128 * 128 + (y.val % 128 + 64) % 128), by omega⟩ : Fin 10240)
      = ⟨(512 * j.val + y.val) / 128 * 128 + ((512 * j.val + y.val) % 128 + 64) % 128, by omega⟩ := Fin.ext (by simp only []; omega)
  have e3 : 18 ≤ j.val ↔ 9216 ≤ 512 * j.val + y.val := by omega
  simp only [e1, e2, e3]

/-- The projection call's result array. -/
theorem proj_array (c : Dev nD) : (dat1 (F := Ideal) V c).arrAt 5 cfg1.N
    = fun y : S1024x10240.Idx => resultAt (V c main_v1_2) (V c main_arg2) (V c main_arg3) (V c main_v22) (V c main_v24) (y 0) (y 1) := by
  refine (dat1 (F := Ideal) V c).arrAt_eq_of_covers 5 _ (by decide +kernel) fun t _ y => ?_
  blk_simp
  rw [after1_5]
  unfold outsAt1
  rw [proj_pieces, projPieces_at]
  obtain ⟨-, -, -, -, -, h5, ht, ht'⟩ := idx1 t
  refine (projAt_eq ⟨(grid1.coords t 0).val, coord_lt _⟩ _ _ _ (V c main_arg2) _ _ _ _ _ _ (iblk1_0 V c t) ?_ (iblk1_2 V c t) (iblk1_3 V c t) (iblk1_4 V c t) _ _).trans ?_
  · intro k y
    refine (iblk1_1 V c t k y).trans ?_
    simp only [ht]
  · refine congrArg₂ (resultAt _ _ _ _ _) (Fin.ext ?_) (Fin.ext ?_)
    · blk_simp [h5]
    · blk_simp [h5]
      show 512 * (grid1.coords t 0).val + (y 1).val = t.val * 512 + (y 1).val
      rw [ht, Nat.mul_comm]

end Cert.KernelIdeal.Value

end
-- ==== Proof.QuantPieces.lean ====
/- The quantising call's output blocks: each group of 128 lanes is treated alike. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

/-- Group `g`'s lanes of a block stay inside the block. -/
theorem inb_group (g : Fin 64) : ∀ a, (![0, 128 * g.val] : Fin 2 → Nat) a + S64x128.size a ≤ S64x8192.size a := by
  intro a; fin_cases a
  · show 0 + 64 ≤ 64; omega
  · show 128 * g.val + 128 ≤ 8192; omega

/-- The rectangle of a block's group `g`: all 64 rows, lanes `128 * g` to `128 * g + 127`. -/
abbrev groupRect (g : Fin 64) : Rect S64x8192 := Rect.unit (s := S64x8192) ![0, 128 * g.val] S64x128.size (inb_group g)

/-- The codes' block is, group by group, the first group's payload of that group's lanes. -/
theorem codes_pieces (x : Vec Ideal S64x8192 .bf16) : out0_1 (F := Ideal) x
    = View.canon (List.ofFn fun k : Fin 64 => (⟨groupRect k.rev, k0_pay4 (View.ld x (groupRect k.rev))⟩ : View.Piece (Elt Ideal) S64x8192 .fp8e4m3)) := by
  chain_rfl

/-- The dequantised activations' block is, group by group, the first group's payload of that group's lanes. -/
theorem xa_pieces (x : Vec Ideal S64x8192 .bf16) : out0_3 (F := Ideal) x
    = View.canon (List.ofFn fun k : Fin 64 => (⟨groupRect k.rev, k0_pay5 (k0_pay3 (View.ld x (groupRect k.rev))) (k0_pay4 (View.ld x (groupRect k.rev)))⟩ : View.Piece (Elt Ideal) S64x8192 .bf16)) := by
  chain_rfl

/-- Sixty-four columns side by side make a square block. -/
theorem columns_concatenate (f : Fin 64 → (S64x1.Idx → EReal)) :
    Shape.Concatenates ((List.ofFn fun n : Fin 64 => (⟨S64x1, f n⟩ : (s : Shape) × (s.Idx → EReal))).map (·.1)) S64x64 1 := by
  rw [List.map_ofFn]
  exact (by decide +kernel : Shape.Concatenates (List.ofFn fun _ : Fin 64 => S64x1) S64x64 1)

/-- The scales' block has, column by column, the first group's scale of that group's lanes. -/
theorem scales_pieces (x : Vec Ideal S64x8192 .bf16) : out0_2 (F := Ideal) x
    = View.canon [(⟨r0_64, concatenate S64x64 1 (List.ofFn fun k : Fin 64 => (⟨S64x1, (k0_pay3 (View.ld x (groupRect k)) : S64x1.Idx → EReal)⟩ : (s : Shape) × (s.Idx → EReal))) (columns_concatenate _)⟩ : View.Piece (Elt Ideal) S64x64 .f32)] := by
  chain_rfl

end Cert.KernelIdeal.Value

end
-- ==== Proof.CountFold.lean ====
/- Counting marks by 32-bit addition. -/
module

public import Idealize.ShloMosaic.Lib.Pointwise

@[expose] public section

set_option maxRecDepth 16384

noncomputable section

namespace Cert.Quant

open Idealize.ShloMosaic

/-- Counting the first `N` of 256 marks gives `N`. -/
theorem fold_count : ∀ N : Fin 257, Finset.fold IntOp.addi (0#32) (fun k : Fin 256 => BitVec.setWidth 32 (BitVec.ofBool (decide (k.val < N.val)))) Finset.univ
    = BitVec.ofNat 32 N.val := by
  decide +kernel

end Cert.Quant

end
-- ==== Proof.Exponent.lean ====
/- The scale of a group: the count of powers of two not above the group's maximum over 448, and the logarithm's floor,
   are one number. -/
module

public import proofs.«01_k».proof.Proof.CountFold

@[expose] public section

set_option maxRecDepth 16384

noncomputable section

namespace Cert.Quant

open Idealize.ShloMosaic

/-- The bits `n << 23` have exponent field `n`, no fraction and no sign. -/
theorem field (n : Fin 256) : ((BitVec.ofNat 32 n.val <<< (23#32)).extractLsb' 23 8).toNat = n.val
    ∧ ((BitVec.ofNat 32 n.val <<< (23#32)).extractLsb' 0 23).toNat = 0
    ∧ ((BitVec.ofNat 32 n.val <<< (23#32)).extractLsb' 31 1 == 1#1) = false := by
  revert n; decide +kernel

/-- A fraction of 23 bits, all of it the leading one. -/
theorem unit_mul (z : ℤ) : (8388608 : ℝ) * (2 : ℝ) ^ (z - 127 - 23) = (2 : ℝ) ^ (z - 127) := by
  rw [show (8388608 : ℝ) = (2 : ℝ) ^ (23 : ℤ) by norm_num, ← zpow_add₀ (by norm_num)]
  exact congrArg (fun z : ℤ => (2 : ℝ) ^ z) (by ring)

/-- The number with bits `n << 23`. -/
theorem ofBits_shl (n : Fin 256) : Ideal.ofBits .f32 (IntOp.shli .vector (BitVec.ofNat 32 n.val) 23#32)
    = if n.val = 255 then ⊤ else if n.val = 0 then 0 else (((2 : ℝ) ^ ((n.val : ℤ) - 127) : ℝ) : EReal) := by
  obtain ⟨h1, h2, h3⟩ := field n
  have hs : IntOp.shli .vector (BitVec.ofNat 32 n.val) 23#32 = BitVec.ofNat 32 n.val <<< (23#32) := by
    unfold IntOp.shli; rw [if_pos (by decide)]
  rw [hs]
  simp only [Ideal.ofBits, Ideal.ieee, h1, h2, h3]
  norm_num [-EReal.coe_mul]
  split_ifs with a b
  · rfl
  · simp
  · rw [unit_mul]

/-- A power of two with an exponent field in range. -/
theorem ofBits_shl_pow (n : ℕ) (h1 : 1 ≤ n) (h2 : n ≤ 254) : Ideal.ofBits .f32 (IntOp.shli .vector (BitVec.ofNat 32 n) 23#32)
    = (((2 : ℝ) ^ ((n : ℤ) - 127) : ℝ) : EReal) := by
  have := ofBits_shl ⟨n, by omega⟩
  rw [if_neg (by simp only []; omega), if_neg (by simp only []; omega)] at this
  exact this

/-- The constant multiplied in for the division by 448. -/
theorem recip : ∃ c : ℝ, Ideal.ofBits .f32 991054117#32 = (c : EReal) ∧ 1 / 448 ≤ c ∧ c ≤ (2 : ℝ) ^ (-8 : ℤ) := by
  refine ⟨(2 ^ 23 + 1198373) * (2 : ℝ) ^ (-32 : ℤ), ?_, by norm_num, by norm_num⟩
  simp [Ideal.ofBits, Ideal.ieee, -EReal.coe_mul]
  norm_num

/-- The smallest positive maximum allowed. -/
theorem lower : Ideal.ofBits .f32 0x04600000#32 = ((448 * (2 : ℝ) ^ (-127 : ℤ) : ℝ) : EReal) := by
  simp [Ideal.ofBits, Ideal.ieee, -EReal.coe_mul]
  norm_num

/-- The largest maximum allowed is below 2^128. -/
theorem upper : ∃ u : ℝ, Ideal.ofBits .f32 0x7F7F0000#32 = (u : EReal) ∧ u ≤ (2 : ℝ) ^ (128 : ℤ) := by
  refine ⟨(2 ^ 23 + 8323072) * (2 : ℝ) ^ (104 : ℤ), ?_, by norm_num⟩
  simp [Ideal.ofBits, Ideal.ieee, -EReal.coe_mul]
  norm_num

/-- What the kernel computes from a group's maximum: the exponent field of the scale. -/
def kexp (a : EReal) : BitVec 32 :=
  if a * Ideal.ofBits .f32 991054117#32 = 0 then 127#32
  else IntOp.addi (IntOp.subi (Finset.fold IntOp.addi (0#32) (fun k : Fin 256 => BitVec.setWidth 32 (BitVec.ofBool (decide
    (Ideal.ofBits .f32 (IntOp.shli .vector (BitVec.ofNat 32 k.val) 23#32) ≤ a * Ideal.ofBits .f32 991054117#32)))) Finset.univ) 1#32) 1#32

/-- The allowed maxima of a group. -/
def InRange (a : EReal) : Prop := a = 0 ∨ (Ideal.ofBits .f32 0x04600000#32 ≤ a ∧ a ≤ Ideal.ofBits .f32 0x7F7F0000#32)

/-- The exponent the reference computes from a group's maximum. -/
def rexp (a : EReal) : EReal :=
  if a = 0 then 0 else Ideal.liftRound Int.floor (Ideal.div (Ideal.log (a * Ideal.ofBits .f32 991054117#32)) ((Real.log 2 : ℝ) : EReal)) + 1

/-- Counting the thresholds not above a positive number finds its binade. -/
theorem count_eq (r : ℝ) (f : ℤ) (hf1 : -127 ≤ f) (hf2 : f ≤ 126) (h1 : (2 : ℝ) ^ f ≤ r) (h2 : r < (2 : ℝ) ^ (f + 1)) :
    Finset.fold IntOp.addi (0#32) (fun k : Fin 256 => BitVec.setWidth 32 (BitVec.ofBool (decide
      (Ideal.ofBits .f32 (IntOp.shli .vector (BitVec.ofNat 32 k.val) 23#32) ≤ (r : EReal))))) Finset.univ = BitVec.ofNat 32 (f + 128).toNat := by
  have h := fold_count ⟨(f + 128).toNat, by omega⟩
  rw [← h]
  congr 1
  funext k
  congr 2
  refine decide_eq_decide.mpr ?_
  rw [ofBits_shl]
  have hr : (0 : ℝ) < r := lt_of_lt_of_le (by positivity) h1
  have hk := k.isLt
  simp only []
  split_ifs with a b
  · simp only [top_le_iff, EReal.coe_ne_top, false_iff, not_lt]; omega
  · rw [b]
    constructor
    · intro _; omega
    · intro _; exact_mod_cast hr.le
  · rw [EReal.coe_le_coe_iff]
    constructor
    · intro h
      have := (zpow_lt_zpow_iff_right₀ (by norm_num : (1 : ℝ) < 2)).mp (lt_of_le_of_lt h h2)
      omega
    · intro h
      refine le_trans (zpow_le_zpow_right₀ (by norm_num) ?_) h1
      omega

/-- Both exponents of a group's maximum, as one number `n`: the kernel's exponent field is `n`, the reference's
    exponent is `n - 127`. -/
theorem exponent (a : EReal) (h : InRange a) : ∃ n : ℕ, 1 ≤ n ∧ n ≤ 253 ∧ kexp a = BitVec.ofNat 32 n
    ∧ rexp a = ((((n : ℤ) - 127 : ℤ) : ℝ) : EReal) := by
  obtain ⟨c, hc, hc1, hc2⟩ := recip
  obtain ⟨u, hu, hu2⟩ := upper
  by_cases ha : a = 0
  · refine ⟨127, by omega, by omega, ?_, ?_⟩
    · rw [kexp, ha, zero_mul, if_pos rfl]
    · rw [rexp, if_pos ha]; simp
  obtain ⟨hl, hr⟩ := h.resolve_left ha
  rw [lower] at hl
  rw [hu] at hr
  obtain ⟨α, rfl⟩ : ∃ α : ℝ, a = (α : EReal) := ⟨a.toReal, (EReal.coe_toReal (fun e => by rw [e] at hr; exact absurd hr (by simp)) (fun e => by rw [e] at hl; exact EReal.coe_ne_bot _ (le_bot_iff.mp hl))).symm⟩
  rw [EReal.coe_le_coe_iff] at hl hr
  have hc0 : (0 : ℝ) < c := lt_of_lt_of_le (by positivity) hc1
  have hα : (0 : ℝ) < α := lt_of_lt_of_le (by positivity) hl
  have hr0 : 0 < α * c := mul_pos hα hc0
  have hm : (α : EReal) * Ideal.ofBits .f32 991054117#32 = ((α * c : ℝ) : EReal) := by rw [hc, EReal.coe_mul]
  have hlow : (2 : ℝ) ^ (-127 : ℤ) ≤ α * c := by
    calc (2 : ℝ) ^ (-127 : ℤ) = 448 * (2 : ℝ) ^ (-127 : ℤ) * (1 / 448) := by ring
      _ ≤ α * c := mul_le_mul hl hc1 (by positivity) hα.le
  have hupp : α * c ≤ (2 : ℝ) ^ (120 : ℤ) := by
    calc α * c ≤ (2 : ℝ) ^ (128 : ℤ) * (2 : ℝ) ^ (-8 : ℤ) := mul_le_mul (hr.trans hu2) hc2 hc0.le (by positivity)
      _ = (2 : ℝ) ^ (120 : ℤ) := by rw [← zpow_add₀ (by norm_num)]; norm_num
  set f : ℤ := ⌊Real.log (α * c) / Real.log 2⌋ with hfd
  have h20 : (0 : ℝ) < Real.log 2 := Real.log_pos (by norm_num)
  have hf1 : (2 : ℝ) ^ f ≤ α * c := by
    have h := Int.floor_le (Real.log (α * c) / Real.log 2)
    rw [le_div_iff₀ h20, ← Real.log_zpow] at h
    exact (Real.log_le_log_iff (by positivity) hr0).mp h
  have hf2 : α * c < (2 : ℝ) ^ (f + 1) := by
    have h := Int.lt_floor_add_one (Real.log (α * c) / Real.log 2)
    rw [div_lt_iff₀ h20] at h
    have h' : Real.log (α * c) < Real.log ((2 : ℝ) ^ (f + 1)) := by rw [Real.log_zpow]; push_cast; exact h
    exact (Real.log_lt_log_iff hr0 (by positivity)).mp h'
  have hg1 : -127 ≤ f := by
    have := (zpow_lt_zpow_iff_right₀ (by norm_num : (1 : ℝ) < 2)).mp (lt_of_le_of_lt hlow hf2)
    omega
  have hg2 : f ≤ 120 := (zpow_le_zpow_iff_right₀ (by norm_num : (1 : ℝ) < 2)).mp (hf1.trans hupp)
  refine ⟨(f + 128).toNat, by omega, by omega, ?_, ?_⟩
  · rw [kexp, hm, if_neg (by exact_mod_cast hr0.ne'), count_eq (α * c) f (by omega) (by omega) hf1 hf2]
    exact BitVec.sub_add_cancel _ _
  · rw [rexp, if_neg ha, hm]
    have h2 : (Real.log 2 : ℝ) ≠ 0 := (Real.log_pos (by norm_num)).ne'
    have hlog : Ideal.log ((α * c : ℝ) : EReal) = (Real.log (α * c) : EReal) := by
      show (if α * c ≤ 0 then ⊥ else (Real.log (α * c) : EReal)) = _
      rw [if_neg (not_le.mpr hr0)]
    rw [hlog, Ideal.div, if_neg (by exact_mod_cast h2)]
    have : (Real.log (α * c) : EReal) * ((Real.log 2 : ℝ) : EReal)⁻¹ = ((Real.log (α * c) / Real.log 2 : ℝ) : EReal) := by
      rw [div_eq_mul_inv, EReal.coe_mul, EReal.coe_inv]
    rw [this]
    show (((f : ℤ) : ℝ) : EReal) + 1 = _
    rw [← EReal.coe_one, ← EReal.coe_add]
    congr 1
    have : (((f + 128).toNat : ℤ) : ℤ) = f + 128 := Int.toNat_of_nonneg (by omega)
    rw [this]; push_cast; ring

/-- The scale. -/
theorem scale_eq (n : ℕ) (h1 : 1 ≤ n) (h2 : n ≤ 253) : Ideal.ofBits .f32 (IntOp.shli .vector (BitVec.ofNat 32 n) 23#32)
    = Ideal.pow ((2 : ℝ) : EReal) ((((n : ℤ) - 127 : ℤ) : ℝ) : EReal) := by
  rw [ofBits_shl_pow n h1 (by omega)]
  show _ = ((Real.rpow 2 (((n : ℤ) - 127 : ℤ) : ℝ) : ℝ) : EReal)
  congr 1
  exact (Real.rpow_intCast 2 _).symm

/-- The scale's reciprocal. -/
theorem recip_eq (n : ℕ) (h1 : 1 ≤ n) (h2 : n ≤ 253) : Ideal.ofBits .f32 (IntOp.shli .vector (IntOp.subi (254#32) (BitVec.ofNat 32 n)) 23#32)
    = Ideal.pow ((2 : ℝ) : EReal) (-((((n : ℤ) - 127 : ℤ) : ℝ) : EReal)) := by
  have hs : IntOp.subi (254#32) (BitVec.ofNat 32 n) = BitVec.ofNat 32 (254 - n) := by
    apply BitVec.eq_of_toNat_eq
    simp only [IntOp.subi, BitVec.toNat_sub, BitVec.toNat_ofNat]
    omega
  rw [hs, ofBits_shl_pow (254 - n) (by omega) (by omega), ← EReal.coe_neg]
  show _ = ((Real.rpow 2 (-(((n : ℤ) - 127 : ℤ) : ℝ)) : ℝ) : EReal)
  congr 1
  rw [← Int.cast_neg]
  refine Eq.trans ?_ (Real.rpow_intCast 2 _).symm
  congr 1; omega

end Cert.Quant

end
-- ==== Proof.QuantValue.lean ====
/- The quantising call's output blocks and result arrays at an index. -/
module

public import proofs.«01_k».proof.Proof.QuantPieces
public import proofs.«01_k».proof.Proof.Exponent

@[expose] public section

set_option maxRecDepth 16384

noncomputable section

namespace Cert.Quant

open Idealize.ShloMosaic

/-- The scale from its exponent field. -/
def kscale (a : EReal) : EReal := Ideal.ofBits .f32 (IntOp.shli .vector (kexp a) 23#32)

/-- The scale's reciprocal from its exponent field. -/
def kinv (a : EReal) : EReal := Ideal.ofBits .f32 (IntOp.shli .vector (IntOp.subi (254#32) (kexp a)) 23#32)

/-- A group's scale as the reference states it. -/
theorem kscale_eq (a : EReal) (h : InRange a) : kscale a = Ideal.pow ((2 : ℝ) : EReal) (rexp a) := by
  obtain ⟨n, h1, h2, hk, hr⟩ := exponent a h
  rw [kscale, hk, hr, scale_eq n h1 h2]

/-- A group's reciprocal scale as the reference states it. -/
theorem kinv_eq (a : EReal) (h : InRange a) : kinv a = Ideal.pow ((2 : ℝ) : EReal) (-rexp a) := by
  obtain ⟨n, h1, h2, hk, hr⟩ := exponent a h
  rw [kinv, hk, hr, recip_eq n h1 h2]

/-- The largest magnitude of a group of 128 numbers. -/
def gmax (f : Fin 128 → EReal) : EReal :=
  Finset.fold max (Ideal.ofBits .f32 4286578688#32) (fun k => FloatOps.absf (F := Ideal) (φ := .f32) (f k)) Finset.univ

/-- A number over its group's scale, clipped to the codes' range. -/
def clip (x : EReal) : EReal := min (Ideal.ofBits .f32 1138753536#32) (max (Ideal.ofBits .f32 3286237184#32) x)

end Cert.Quant

namespace Cert.KernelIdeal.Value

open Idealize.ShloMosaic Idealize.ShloMosaic.TcCoe Idealize.SL.Sem
open Idealize.ShloMosaic.Pipeline (Dat)
open Cert.KernelIdeal Cert.KernelIdeal.Gen Cert.Quant

/-- The largest magnitude of group `g` of row `x`. -/
def rowMax {n : Nat} (X : (⟨2, ![n, 8192]⟩ : Shape).Idx → EReal) (x : Fin n) (g : Fin 64) : EReal :=
  gmax fun k => X (ix2 x ⟨128 * g.val + k.val, by omega⟩)

/-- The code at a place of a row. -/
def codeAt {n : Nat} (X : (⟨2, ![n, 8192]⟩ : Shape).Idx → EReal) (x : Fin n) (y : Fin 8192) : EReal :=
  clip (X (ix2 x y) * kinv (rowMax X x ⟨y.val / 128, by omega⟩))

/-- The dequantised number at a place of a row. -/
def deqAt {n : Nat} (X : (⟨2, ![n, 8192]⟩ : Shape).Idx → EReal) (x : Fin n) (y : Fin 8192) : EReal :=
  codeAt X x y * kscale (rowMax X x ⟨y.val / 128, by omega⟩)

/-- A group's exponent field. -/
theorem pay2_at (v : Vec Ideal S64x128 .bf16) (x : Fin 64) : k0_pay2 (F := Ideal) v (ix2 x 0) = kexp (gmax fun k => v (ix2 x k)) := by
  pointwise [k0_pay2, k0_pay1]
  rfl

/-- A group's scale. -/
theorem pay3_at (v : Vec Ideal S64x128 .bf16) (x : Fin 64) : k0_pay3 (F := Ideal) v (ix2 x 0) = kscale (gmax fun k => v (ix2 x k)) := by
  pointwise [k0_pay3]
  rw [pay2_at]; rfl

/-- A group's codes. -/
theorem pay4_at (v : Vec Ideal S64x128 .bf16) (x : Fin 64) (y : Fin 128) : k0_pay4 (F := Ideal) v (ix2 x y) = clip (v (ix2 x y) * kinv (gmax fun k => v (ix2 x k))) := by
  pointwise [k0_pay4, k0_pay1]
  rw [pay2_at]; rfl

/-- A group's dequantised numbers. -/
theorem pay5_at (v : FVec Ideal S64x1 .f32) (w : FVec Ideal S64x128 .fp8e4m3) (x : Fin 64) (y : Fin 128) : k0_pay5 (F := Ideal) v w (ix2 x y) = w (ix2 x y) * v (ix2 x 0) := by
  pointwise [k0_pay5]

/-- A group's lanes at a place. -/
theorem ld_at (X : Vec Ideal S64x8192 .bf16) (g : Fin 64) (x : Fin 64) (k : Fin 128) :
    View.ld X (groupRect g) (ix2 x k) = X (ix2 x ⟨128 * g.val + k.val, by omega⟩) := by
  pointwise []

/-- A group's place in its row. -/
theorem emb_group (g : Fin 64) (x : Fin 64) (k : Fin 128) :
    (groupRect g).emb (ix2 x k) = (ix2 x ⟨128 * g.val + k.val, by omega⟩ : S64x8192.Idx) := by
  idx_ext
  all_goals simp [groupRect, Rect.emb]

/-- A row group's largest magnitude, read through the group's lanes. -/
theorem rowMax_group (X : Vec Ideal S64x8192 .bf16) (g : Fin 64) (x : Fin 64) (j : Fin 8192) (h : j.val / 128 = g.val) :
    rowMax X x ⟨j.val / 128, by omega⟩ = gmax fun k => View.ld X (groupRect g) (ix2 x k) := by
  unfold rowMax
  refine congrArg gmax (funext fun k => ?_)
  rw [ld_at]
  refine congrArg X (congrArg (ix2 x) (Fin.ext ?_))
  show 128 * (j.val / 128) + k.val = 128 * g.val + k.val
  rw [h]

/-- The code of a group's lane. -/
theorem codeAt_group (X : Vec Ideal S64x8192 .bf16) (g : Fin 64) (x : Fin 64) (k : Fin 128) :
    k0_pay4 (F := Ideal) (View.ld X (groupRect g)) (ix2 x k) = codeAt X x ⟨128 * g.val + k.val, by omega⟩ := by
  rw [pay4_at, codeAt, rowMax_group X g x _ (by simp only []; omega), ld_at]

/-- The dequantised number of a group's lane. -/
theorem deqAt_group (X : Vec Ideal S64x8192 .bf16) (g : Fin 64) (x : Fin 64) (k : Fin 128) :
    k0_pay5 (F := Ideal) (k0_pay3 (View.ld X (groupRect g))) (k0_pay4 (View.ld X (groupRect g))) (ix2 x k) = deqAt X x ⟨128 * g.val + k.val, by omega⟩ := by
  rw [pay5_at, codeAt_group, pay3_at, deqAt, rowMax_group X g x _ (by simp only []; omega)]

/-- The groups' lanes cover the row. -/
theorem lanes_cover {e : EltTy} (f : (g : Fin 64) → (groupRect g).shape.Idx → Elt Ideal e) (y : S64x8192.Idx) :
    ∃ p ∈ (List.ofFn fun k : Fin 64 => (⟨groupRect k.rev, f k.rev⟩ : View.Piece (Elt Ideal) S64x8192 e)), y ∈ p.1.set := by
  idx_vars y
  refine ⟨_, List.mem_ofFn.mpr ⟨(⟨y1.val / 128, by omega⟩ : Fin 64).rev, rfl⟩, ?_⟩
  simp only [Fin.rev_rev]
  refine LoadRect.mem_set _ |>.mpr fun a => ?_
  fin_cases a
  · exact ⟨y0.val, y0.isLt, by simp [groupRect, Rect.unit]⟩
  · refine ⟨y1.val % 128, Nat.mod_lt _ (by omega), ?_⟩
    show y1.val = 128 * (y1.val / 128) + 1 * (y1.val % 128)
    omega

/-- The codes' block at an index. -/
theorem codes_at (X : Vec Ideal S64x8192 .bf16) (y : S64x8192.Idx) : out0_1 (F := Ideal) X y = codeAt X (y 0) (y 1) := by
  rw [codes_pieces]
  refine View.canon_apply_of_pieces (Val := Elt Ideal) (S := S64x8192) (e := .fp8e4m3) (fun y : S64x8192.Idx => codeAt X (y 0) (y 1)) _ ?_ y (lanes_cover (e := .fp8e4m3) (fun g => k0_pay4 (F := Ideal) (View.ld X (groupRect g))) y)
  intro p hp x
  obtain ⟨k, rfl⟩ := List.mem_ofFn.mp hp
  idx_vars x
  show _ = codeAt X ((groupRect k.rev).emb (ix2 x0 x1) 0) ((groupRect k.rev).emb (ix2 x0 x1) 1)
  rw [emb_group]
  exact codeAt_group X k.rev x0 x1

/-- The dequantised activations' block at an index. -/
theorem xa_at (X : Vec Ideal S64x8192 .bf16) (y : S64x8192.Idx) : out0_3 (F := Ideal) X y = deqAt X (y 0) (y 1) := by
  rw [xa_pieces]
  refine View.canon_apply_of_pieces (Val := Elt Ideal) (S := S64x8192) (e := .bf16) (fun y : S64x8192.Idx => deqAt X (y 0) (y 1)) _ ?_ y (lanes_cover (e := .bf16) (fun g => k0_pay5 (F := Ideal) (k0_pay3 (View.ld X (groupRect g))) (k0_pay4 (View.ld X (groupRect g)))) y)
  intro p hp x
  obtain ⟨k, rfl⟩ := List.mem_ofFn.mp hp
  idx_vars x
  show _ = deqAt X ((groupRect k.rev).emb (ix2 x0 x1) 0) ((groupRect k.rev).emb (ix2 x0 x1) 1)
  rw [emb_group]
  exact deqAt_group X k.rev x0 x1

/-- The scales' block at an index. -/
theorem scales_at (X : Vec Ideal S64x8192 .bf16) (y : S64x64.Idx) : out0_2 (F := Ideal) X y = kscale (rowMax X (y 0) (y 1)) := by
  rw [scales_pieces]
  refine View.canon_apply_of_pieces (Val := Elt Ideal) (S := S64x64) (e := .f32) (fun y : S64x64.Idx => kscale (rowMax X (y 0) (y 1))) _ ?_ y ?_
  · intro p hp x
    obtain rfl := List.mem_singleton.mp hp
    idx_vars x
    have he : r0_64.emb (ix2 x0 x1) = (ix2 x0 x1 : S64x64.Idx) := by
      idx_ext
      all_goals simp [Rect.emb]
    show _ = kscale (rowMax X (r0_64.emb (ix2 x0 x1) 0) (r0_64.emb (ix2 x0 x1) 1))
    rw [he]
    refine (concatenate_ofFn_apply (t := S64x64) (s₁ := S64x1) 1 (fun k : Fin 64 => (k0_pay3 (F := Ideal) (View.ld X (groupRect k)) : S64x1.Idx → EReal)) (columns_concatenate _) rfl 1 rfl (ix2 x0 x1) x1 (Nat.div_one _) (ix2 x0 0) (Nat.mod_one _).symm ?_).trans ?_
    · intro b hb
      fin_cases b
      · rfl
      · exact absurd rfl hb
    · rw [pay3_at]
      refine congrArg kscale ((congrArg gmax (funext fun k => ?_)))
      rw [ld_at]
      rfl
  · exact View.cover_of_tiled (Val := Elt Ideal) (s := S64x64) (e := .f32) [⟨r0_64, _⟩] S64x64.size (by rfl) y

variable (V : (c : Dev nD) → (b : Ref sig .tc) → Buf (Elt Ideal) ((c : Thread nD τ).loc b))

/-- The blocks' places in the arrays. -/
theorem idx0 : ∀ t : Fin cfg0.N, win0_0.index t = ![t.val, 0] ∧ win0_1.index t = ![t.val, 0] ∧ win0_2.index t = ![t.val, 0] ∧ win0_3.index t = ![t.val, 0] ∧ t.val < 16 :=
  (by decide +kernel : ∀ t : Fin grid0.N, _)

/-- The activations' block is the point's 64 rows. -/
theorem iblk0_0 (c : Dev nD) (t : Fin cfg0.N) (x : Fin 64) (k : Fin 8192) : (show FVec Ideal S64x8192 .bf16 from iblk0 (F := Ideal) V c 0 t) (ix2 x k) = (show FVec Ideal S1024x8192 .bf16 from V c main_v0) (ix2 ⟨64 * t.val + x.val, by have := (idx0 t).2.2.2.2; omega⟩ k) := by
  blk_ext [iblk0, idx0 t]

/-- A block's group's largest magnitude is the array's. -/
theorem rowMax_block (c : Dev nD) (t : Fin cfg0.N) (x : Fin 64) (g : Fin 64) :
    rowMax (show FVec Ideal S64x8192 .bf16 from iblk0 (F := Ideal) V c 0 t) x g = rowMax (show FVec Ideal S1024x8192 .bf16 from V c main_v0) ⟨64 * t.val + x.val, by have := (idx0 t).2.2.2.2; omega⟩ g := by
  unfold rowMax
  refine congrArg gmax (funext fun k => ?_)
  rw [iblk0_0]

/-- A block's code is the array's. -/
theorem codeAt_block (c : Dev nD) (t : Fin cfg0.N) (x : Fin 64) (y : Fin 8192) :
    codeAt (show FVec Ideal S64x8192 .bf16 from iblk0 (F := Ideal) V c 0 t) x y = codeAt (show FVec Ideal S1024x8192 .bf16 from V c main_v0) ⟨64 * t.val + x.val, by have := (idx0 t).2.2.2.2; omega⟩ y := by
  unfold codeAt
  rw [iblk0_0, rowMax_block]

/-- A block's dequantised number is the array's. -/
theorem deqAt_block (c : Dev nD) (t : Fin cfg0.N) (x : Fin 64) (y : Fin 8192) :
    deqAt (show FVec Ideal S64x8192 .bf16 from iblk0 (F := Ideal) V c 0 t) x y = deqAt (show FVec Ideal S1024x8192 .bf16 from V c main_v0) ⟨64 * t.val + x.val, by have := (idx0 t).2.2.2.2; omega⟩ y := by
  unfold deqAt
  rw [codeAt_block, rowMax_block]

/-- The codes' array. -/
theorem codes_array (c : Dev nD) : (dat0 (F := Ideal) V c).arrAt 1 cfg0.N
    = fun y : S1024x8192.Idx => codeAt (show FVec Ideal S1024x8192 .bf16 from V c main_v0) (y 0) (y 1) := by
  refine (dat0 (F := Ideal) V c).arrAt_eq_of_covers 1 _ (by decide +kernel) fun t _ y => ?_
  blk_simp
  rw [after0_1, codes_at]
  obtain ⟨-, h1, h2, h3, ht⟩ := idx0 t
  refine (codeAt_block V c t _ _).trans (congrArg₂ (codeAt _) (Fin.ext ?_) (Fin.ext ?_))
  · blk_simp [h1]
    exact congrArg (· + _) (Nat.mul_comm _ _)
  · blk_simp [h1]

/-- The scales' array. -/
theorem scales_array (c : Dev nD) : (dat0 (F := Ideal) V c).arrAt 2 cfg0.N
    = fun y : S1024x64.Idx => kscale (rowMax (show FVec Ideal S1024x8192 .bf16 from V c main_v0) (y 0) (y 1)) := by
  refine (dat0 (F := Ideal) V c).arrAt_eq_of_covers 2 _ (by decide +kernel) fun t _ y => ?_
  blk_simp
  rw [after0_2, scales_at]
  obtain ⟨-, h1, h2, h3, ht⟩ := idx0 t
  refine congrArg kscale ((rowMax_block V c t _ _).trans (congrArg₂ (rowMax _) (Fin.ext ?_) (Fin.ext ?_)))
  · blk_simp [h2]
    exact congrArg (· + _) (Nat.mul_comm _ _)
  · blk_simp [h2]

/-- The dequantised activations' array. -/
theorem xa_array (c : Dev nD) : (dat0 (F := Ideal) V c).arrAt 3 cfg0.N
    = fun y : S1024x8192.Idx => deqAt (show FVec Ideal S1024x8192 .bf16 from V c main_v0) (y 0) (y 1) := by
  refine (dat0 (F := Ideal) V c).arrAt_eq_of_covers 3 _ (by decide +kernel) fun t _ y => ?_
  blk_simp
  rw [after0_3, xa_at]
  obtain ⟨-, h1, h2, h3, ht⟩ := idx0 t
  refine (deqAt_block V c t _ _).trans (congrArg₂ (deqAt _) (Fin.ext ?_) (Fin.ext ?_))
  · blk_simp [h3]
    exact congrArg (· + _) (Nat.mul_comm _ _)
  · blk_simp [h3]

end Cert.KernelIdeal.Value

end
-- ==== Proof.Spec.lean ====
/- What both programs compute, as functions of the argument arrays at an index. -/
module

public import proofs.«01_k».proof.Proof.QuantValue

@[expose] public section

noncomputable section

namespace Cert.Quant

open Idealize.ShloMosaic

/-- The number with bits `0x40000000`. -/
theorem two : Ideal.ofBits .f32 1073741824#32 = ((2 : ℝ) : EReal) := by
  simp [Ideal.ofBits, Ideal.ieee, -EReal.coe_mul]
  norm_num

/-- Its logarithm. -/
theorem log_two : Ideal.log (Ideal.ofBits .f32 1073741824#32) = ((Real.log 2 : ℝ) : EReal) := by
  rw [two, Ideal.log_coe]
  norm_num

/-- The activations, `[batch, position, feature]`. -/
abbrev Acts : Type := (⟨3, ![2, 512, 8192]⟩ : Shape).Idx → EReal
/-- The weights' codes, `[feature, column]`. -/
abbrev Wts : Type := (⟨2, ![8192, 10240]⟩ : Shape).Idx → EReal
/-- The weights' scales, one per 128 by 128 block. -/
abbrev Scls : Type := (⟨2, ![64, 80]⟩ : Shape).Idx → EReal
/-- The positions, `[batch, position]`. -/
abbrev Poss : Type := (⟨2, ![2, 512]⟩ : Shape).Idx → BitVec 32

/-- The largest magnitude of group `g` of a position's features. -/
def amax (X : Acts) (b : Fin 2) (s : Fin 512) (g : Fin 64) : EReal := gmax fun k => X (ix3 b s ⟨g.val * 128 + k.val, by omega⟩)

/-- A group's scale: two to the reference's exponent. -/
def qscale (X : Acts) (b : Fin 2) (s : Fin 512) (g : Fin 64) : EReal := Ideal.pow ((2 : ℝ) : EReal) (rexp (amax X b s g))

/-- A feature's code: the feature over its group's scale, clipped. -/
def qcode (X : Acts) (b : Fin 2) (s : Fin 512) (j : Fin 8192) : EReal :=
  clip (X (ix3 b s j) * Ideal.pow ((2 : ℝ) : EReal) (-rexp (amax X b s ⟨j.val / 128, by omega⟩)))

/-- A projection's column at a position. -/
def qkv (X : Acts) (W : Wts) (S : Scls) (b : Fin 2) (s : Fin 512) (n : Fin 10240) : EReal :=
  ∑ k : Fin 8192, qcode X b s k * qscale X b s ⟨k.val / 128, by omega⟩ * (W (ix2 k n) * S (ix2 ⟨k.val / 128, by omega⟩ ⟨n.val / 128, by omega⟩))

/-- The angle by which a position rotates the `d`-th pair of a head. -/
def angle (P : Poss) (b : Fin 2) (s : Fin 512) (d : ℕ) : EReal :=
  FloatOps.sitofp (F := Ideal) FTy.f32 (P (ix2 b s)) *
    Ideal.div 1 (Ideal.pow (Ideal.ofBits FTy.f32 1176256512#32)
      (Ideal.div (Ideal.ofBits FTy.f32 1073741824#32 * FloatOps.sitofp (F := Ideal) FTy.f32 (BitVec.ofNat 32 d)) (Ideal.ofBits FTy.f32 1124073472#32)))

/-- A rotated head, of which `T` are the 128 numbers before. -/
def rotated (T : Fin 128 → EReal) (P : Poss) (b : Fin 2) (s : Fin 512) (d : Fin 128) : EReal :=
  if h : d.val < 64 then T d * Ideal.cos (angle P b s d.val) - T ⟨d.val + 64, by omega⟩ * Ideal.sin (angle P b s d.val)
  else T d * Ideal.cos (angle P b s (d.val - 64)) + T ⟨d.val - 64, by omega⟩ * Ideal.sin (angle P b s (d.val - 64))

end Cert.Quant

end
-- ==== Proof.KernelValue.lean ====
/- The kernel program's results at an index, from what its calls leave. -/
module

public import proofs.«01_k».proof.Proof.KernelRun
public import proofs.«01_k».proof.Proof.ProjArray
public import proofs.«01_k».proof.Proof.Spec
public import Idealize.ShloMosaic.Lib.Claim

@[expose] public section

set_option maxRecDepth 16384

noncomputable section

namespace Cert.KernelIdeal.Value

open Idealize.ShloMosaic Idealize.ShloMosaic.TcCoe Idealize.SL.Sem
open Cert.KernelIdeal Cert.KernelIdeal.Gen Cert.Quant

/-! ### Over any arrays -/

section
variable (X : Acts) (X' : FVec Ideal S1024x8192 .bf16) (b : Fin 2) (s : Fin 512)
  (hX : ∀ k : Fin 8192, X' (ix2 ⟨512 * b.val + s.val, by omega⟩ k) = X (ix3 b s k))
  (hr : ∀ g, InRange (amax X b s g))
include hX

/-- A row's group has the position's largest magnitude. -/
theorem rowMax_eq (g : Fin 64) : rowMax X' ⟨512 * b.val + s.val, by omega⟩ g = amax X b s g := by
  unfold rowMax amax
  refine congrArg gmax (funext fun k => ?_)
  rw [hX]
  exact congrArg X (congrArg (ix3 b s) (Fin.ext (by simp only []; omega)))

include hr

/-- A row's scale is the position's. -/
theorem kscale_row (g : Fin 64) : kscale (rowMax X' ⟨512 * b.val + s.val, by omega⟩ g) = qscale X b s g := by
  rw [rowMax_eq X X' b s hX, kscale_eq _ (hr g)]; rfl

/-- A row's code is the position's. -/
theorem code_row (k : Fin 8192) : codeAt X' ⟨512 * b.val + s.val, by omega⟩ k = qcode X b s k := by
  unfold codeAt qcode
  rw [rowMax_eq X X' b s hX, kinv_eq _ (hr _), hX]

/-- A row's number back from its code is the position's. -/
theorem deq_row (k : Fin 8192) : deqAt X' ⟨512 * b.val + s.val, by omega⟩ k = qcode X b s k * qscale X b s ⟨k.val / 128, by omega⟩ := by
  unfold deqAt
  rw [code_row X X' b s hX hr, kscale_row X X' b s hX hr]
end

section
variable (X : Acts) (Q : FVec Ideal S1024x8192 .bf16) (W : FVec Ideal S8192x10240 .fp8e4m3) (S : FVec Ideal S64x80 .f32) (C D : FVec Ideal S1024x128 .f32) (P : Poss) (b : Fin 2) (s : Fin 512)
  (hQ : ∀ k : Fin 8192, Q (ix2 ⟨512 * b.val + s.val, by omega⟩ k) = qcode X b s k * qscale X b s ⟨k.val / 128, by omega⟩)
  (hC : ∀ k : Fin 128, C (ix2 ⟨512 * b.val + s.val, by omega⟩ k) = if k.val < 64 then Ideal.cos (angle P b s k.val) else Ideal.cos (angle P b s (k.val - 64)))
  (hD : ∀ k : Fin 128, D (ix2 ⟨512 * b.val + s.val, by omega⟩ k) = if k.val < 64 then -Ideal.sin (angle P b s k.val) else Ideal.sin (angle P b s (k.val - 64)))
include hQ

/-- The call's product at a row is the projection at the position. -/
theorem prod_row (n : Fin 10240) : prodAt Q W S ⟨512 * b.val + s.val, by omega⟩ n = qkv X W S b s n := by
  unfold prodAt qkv
  exact Finset.sum_congr rfl fun k _ => by rw [hQ]

/-- The columns from 9216 on keep the projection. -/
theorem result_value (n : Fin 10240) (hn : 9216 ≤ n.val) : resultAt Q W S C D ⟨512 * b.val + s.val, by omega⟩ n = qkv X W S b s n := by
  unfold resultAt
  rw [if_pos hn, prod_row X Q W S b s hQ]

include hC hD

/-- The columns before 9216 are rotated, 128 at a time. -/
theorem result_rot (o : ℕ) (ho : o < 72) (d : Fin 128) (n : Fin 10240) (hn : n.val = o * 128 + d.val) :
    resultAt Q W S C D ⟨512 * b.val + s.val, by omega⟩ n = rotated (fun e => qkv X W S b s ⟨o * 128 + e.val, by omega⟩) P b s d := by
  obtain ⟨n, hn'⟩ := n
  simp only [] at hn
  subst hn
  unfold resultAt rotated
  have e1 : (⟨(o * 128 + d.val) % 128, by omega⟩ : Fin 128) = d := Fin.ext (by simp only []; omega)
  rw [if_neg (by show ¬ 9216 ≤ o * 128 + d.val; omega), prod_row X Q W S b s hQ, prod_row X Q W S b s hQ, e1, hC, hD]
  split
  · have e2 : (⟨(o * 128 + d.val) / 128 * 128 + ((o * 128 + d.val) % 128 + 64) % 128, by omega⟩ : Fin 10240) = ⟨o * 128 + (d.val + 64), by omega⟩ := Fin.ext (by simp only []; omega)
    rw [e2, mul_neg, sub_eq_add_neg]
  · have e2 : (⟨(o * 128 + d.val) / 128 * 128 + ((o * 128 + d.val) % 128 + 64) % 128, by omega⟩ : Fin 10240) = ⟨o * 128 + (d.val - 64), by omega⟩ := Fin.ext (by simp only []; omega)
    rw [e2]
end

/-! ### Over the program's buffers -/

variable (m : (ℓ : Loc nD τ sig) → Buf (Elt Ideal) ℓ) (ρ : Dev nD → PrngReg) (c : Dev nD)

/-- The activations. -/
abbrev inX : Acts := m ((c.tc : Thread nD τ).loc main_arg0)
/-- The positions. -/
abbrev inP : Poss := m ((c.tc : Thread nD τ).loc main_arg1)
/-- The weights' codes. -/
abbrev inW : Wts := m ((c.tc : Thread nD τ).loc main_arg2)
/-- The weights' scales. -/
abbrev inS : Scls := m ((c.tc : Thread nD τ).loc main_arg3)

/-- The quantization call reads the activations, a row per position. -/
theorem rows_at (b : Fin 2) (s : Fin 512) (k : Fin 8192) :
    (show FVec Ideal S1024x8192 .bf16 from V1 m ρ c main_v0) (ix2 ⟨512 * b.val + s.val, by omega⟩ k) = inX m c (ix3 b s k) := by
  show (show FVec Ideal S1024x8192 .bf16 from W1 m ρ c (Proc.devRef .tc main_v0)) _ = _
  unfold W1
  entry_read
  pointwise []

/-- A table's row for a position, from the row's number. -/
theorem row_angle (P : Poss) (b : Fin 2) (s : Fin 512) (d : ℕ) :
    FloatOps.sitofp (F := Ideal) FTy.f32 (P (ix2 ⟨(512 * b.val + s.val) / 512, by omega⟩ ⟨(512 * b.val + s.val) % 512, by omega⟩)) *
      Ideal.div 1 (Ideal.pow (Ideal.ofBits FTy.f32 1176256512#32)
        (Ideal.div (Ideal.ofBits FTy.f32 1073741824#32 * FloatOps.sitofp (F := Ideal) FTy.f32 (BitVec.ofNat 32 d)) (Ideal.ofBits FTy.f32 1124073472#32)))
      = angle P b s d := by
  have eb : (⟨(512 * b.val + s.val) / 512, by omega⟩ : Fin 2) = b := Fin.ext (by simp only []; omega)
  have es : (⟨(512 * b.val + s.val) % 512, by omega⟩ : Fin 512) = s := Fin.ext (by simp only []; omega)
  rw [eb, es, angle]

section
variable (σ : Valuation τ sig (Elt Ideal))

/-- The table of cosines that the host lines between the calls make. -/
theorem cos_line (b : Fin 2) (s : Fin 512) (k : Fin 128) :
    (show FVec Ideal S1024x128 .f32 from StableHlo.after hostOps1 σ (Proc.devRef .tc main_v22)) (ix2 ⟨512 * b.val + s.val, by omega⟩ k)
      = if k.val < 64 then Ideal.cos (angle (σ (Proc.devRef .tc main_arg1)) b s k.val) else Ideal.cos (angle (σ (Proc.devRef .tc main_arg1)) b s (k.val - 64)) := by
  entry_read
  generalize σ (Proc.devRef .tc main_arg1) = P
  pointwise []
  by_cases h : k.val < 64
  · simp only [h, ↓reduceDIte, ↓reduceIte, row_angle]
  · simp only [h, ↓reduceDIte, ↓reduceIte, row_angle]

/-- The table of sines that the host lines between the calls make. -/
theorem sin_line (b : Fin 2) (s : Fin 512) (k : Fin 128) :
    (show FVec Ideal S1024x128 .f32 from StableHlo.after hostOps1 σ (Proc.devRef .tc main_v24)) (ix2 ⟨512 * b.val + s.val, by omega⟩ k)
      = if k.val < 64 then -Ideal.sin (angle (σ (Proc.devRef .tc main_arg1)) b s k.val) else Ideal.sin (angle (σ (Proc.devRef .tc main_arg1)) b s (k.val - 64)) := by
  entry_read
  generalize σ (Proc.devRef .tc main_arg1) = P
  pointwise []
  by_cases h : k.val < 64
  · simp only [h, ↓reduceDIte, ↓reduceIte, row_angle]
  · simp only [h, ↓reduceDIte, ↓reduceIte, row_angle]
end

/-- The projection call's cosines. -/
theorem cos_at (b : Fin 2) (s : Fin 512) (k : Fin 128) :
    (show FVec Ideal S1024x128 .f32 from V3 m ρ c main_v22) (ix2 ⟨512 * b.val + s.val, by omega⟩ k)
      = if k.val < 64 then Ideal.cos (angle (inP m c) b s k.val) else Ideal.cos (angle (inP m c) b s (k.val - 64)) :=
  (cos_line (W2 m ρ c) b s k).trans (by rw [W2_args m ρ c main_arg1 (by decide)])

/-- The projection call's sines, the first half of a head's negated. -/
theorem sin_at (b : Fin 2) (s : Fin 512) (k : Fin 128) :
    (show FVec Ideal S1024x128 .f32 from V3 m ρ c main_v24) (ix2 ⟨512 * b.val + s.val, by omega⟩ k)
      = if k.val < 64 then -Ideal.sin (angle (inP m c) b s k.val) else Ideal.sin (angle (inP m c) b s (k.val - 64)) :=
  (sin_line (W2 m ρ c) b s k).trans (by rw [W2_args m ρ c main_arg1 (by decide)])

/-- The projection call reads the numbers back from the codes. -/
theorem back_line : V3 m ρ c main_v1_2 = fun y : S1024x8192.Idx => deqAt (show FVec Ideal S1024x8192 .bf16 from V1 m ρ c main_v0) (y 0) (y 1) := by
  have h := W2_arr m ρ c 3
  rw [xa_array] at h
  exact (W3_of m ρ c main_v1_2 (by decide)).trans h
/-- The weights' codes reach the projection call unchanged. -/
theorem wts_line : V3 m ρ c main_arg2 = inW m c := W3_args m ρ c main_arg2 (by decide)
/-- The weights' scales reach the projection call unchanged. -/
theorem scls_line : V3 m ρ c main_arg3 = inS m c := W3_args m ρ c main_arg3 (by decide)

/-- The array the projection call leaves. -/
def result (x : Fin 1024) (y : Fin 10240) : EReal := resultAt (V3 m ρ c main_v1_2) (V3 m ρ c main_arg2) (V3 m ρ c main_arg3) (V3 m ρ c main_v22) (V3 m ρ c main_v24) x y

/-- The query result is a part of it. -/
theorem q_part (b : Fin 2) (s : Fin 512) (h : Fin 64) (k : Fin 128) :
    (show FVec Ideal S2x512x64x128 .bf16 from W5 m ρ c (Proc.devRef .tc main_v27)) (ix4 b s h k) = result m ρ c ⟨512 * b.val + s.val, by omega⟩ ⟨h.val * 128 + k.val, by omega⟩ := by
  unfold W5
  entry_read
  have h' := W4_arr m ρ c 5
  rw [proj_array] at h'
  erw [h']
  pointwise []
  exact congrArg (resultAt _ _ _ _ _ · _) (Fin.ext (by simp only []; omega))

/-- The key result is a part of it. -/
theorem k_part (b : Fin 2) (s : Fin 512) (h : Fin 8) (k : Fin 128) :
    (show FVec Ideal S2x512x8x128 .bf16 from W5 m ρ c (Proc.devRef .tc main_v29)) (ix4 b s h k) = result m ρ c ⟨512 * b.val + s.val, by omega⟩ ⟨8192 + (h.val * 128 + k.val), by omega⟩ := by
  unfold W5
  entry_read
  have h' := W4_arr m ρ c 5
  rw [proj_array] at h'
  erw [h']
  pointwise []
  exact congrArg (resultAt _ _ _ _ _ · _) (Fin.ext (by simp only []; omega))

/-- The value result is a part of it. -/
theorem v_part (b : Fin 2) (s : Fin 512) (h : Fin 8) (k : Fin 128) :
    (show FVec Ideal S2x512x8x128 .bf16 from W5 m ρ c (Proc.devRef .tc main_v31)) (ix4 b s h k) = result m ρ c ⟨512 * b.val + s.val, by omega⟩ ⟨9216 + (h.val * 128 + k.val), by omega⟩ := by
  unfold W5
  entry_read
  have h' := W4_arr m ρ c 5
  rw [proj_array] at h'
  erw [h']
  pointwise []
  exact congrArg (resultAt _ _ _ _ _ · _) (Fin.ext (by simp only []; omega))

/-- The codes' result holds the quantization call's codes. -/
theorem codes_part (b : Fin 2) (s : Fin 512) (k : Fin 8192) :
    (show FVec Ideal S2x512x8192 .fp8e4m3 from W5 m ρ c (Proc.devRef .tc main_v32)) (ix3 b s k) = codeAt (show FVec Ideal S1024x8192 .bf16 from V1 m ρ c main_v0) ⟨512 * b.val + s.val, by omega⟩ k := by
  unfold W5
  entry_read
  have h := W2_arr m ρ c 1
  rw [codes_array] at h
  rw [(W4_of m ρ c main_v1_0 (by decide)).trans ((W3_of m ρ c main_v1_0 (by decide)).trans h)]
  pointwise []
  exact congrArg (codeAt _ · _) (Fin.ext (by simp only []; omega))

/-- The scales' result holds the quantization call's scales. -/
theorem scales_part (b : Fin 2) (s : Fin 512) (g : Fin 64) :
    (show FVec Ideal S2x512x64 .f32 from W5 m ρ c (Proc.devRef .tc main_v33)) (ix3 b s g) = kscale (rowMax (show FVec Ideal S1024x8192 .bf16 from V1 m ρ c main_v0) ⟨512 * b.val + s.val, by omega⟩ g) := by
  unfold W5
  entry_read
  have h := W2_arr m ρ c 2
  rw [scales_array] at h
  rw [(W4_of m ρ c main_v1_1 (by decide)).trans ((W3_of m ρ c main_v1_1 (by decide)).trans h)]
  pointwise []
  exact congrArg (fun x => kscale (rowMax _ x _)) (Fin.ext (by simp only []; omega))

/-! ### The results, when every group's largest magnitude is in range -/

variable (hr : ∀ b s g, InRange (amax (inX m c) b s g))
include hr

/-- The numbers the projection call reads. -/
theorem back_at (b : Fin 2) (s : Fin 512) (k : Fin 8192) :
    (show FVec Ideal S1024x8192 .bf16 from V3 m ρ c main_v1_2) (ix2 ⟨512 * b.val + s.val, by omega⟩ k)
      = qcode (inX m c) b s k * qscale (inX m c) b s ⟨k.val / 128, by omega⟩ := by
  rw [back_line]
  exact deq_row (inX m c) _ b s (rows_at m ρ c b s) (hr b s) k

/-- The queries. -/
theorem q_result (b : Fin 2) (s : Fin 512) (h : Fin 64) (k : Fin 128) :
    (show FVec Ideal S2x512x64x128 .bf16 from W5 m ρ c (Proc.devRef .tc main_v27)) (ix4 b s h k)
      = rotated (fun e => qkv (inX m c) (inW m c) (inS m c) b s ⟨h.val * 128 + e.val, by omega⟩) (inP m c) b s k := by
  rw [q_part]
  unfold result
  rw [wts_line, scls_line]
  exact result_rot (inX m c) _ _ _ _ _ (inP m c) b s (back_at m ρ c hr b s) (cos_at m ρ c b s) (sin_at m ρ c b s) h.val (by omega) k _ rfl

/-- The keys. -/
theorem k_result (b : Fin 2) (s : Fin 512) (h : Fin 8) (k : Fin 128) :
    (show FVec Ideal S2x512x8x128 .bf16 from W5 m ρ c (Proc.devRef .tc main_v29)) (ix4 b s h k)
      = rotated (fun e => qkv (inX m c) (inW m c) (inS m c) b s ⟨8192 + (h.val * 128 + e.val), by omega⟩) (inP m c) b s k := by
  rw [k_part]
  unfold result
  rw [wts_line, scls_line]
  refine (result_rot (inX m c) _ _ _ _ _ (inP m c) b s (back_at m ρ c hr b s) (cos_at m ρ c b s) (sin_at m ρ c b s) (64 + h.val) (by omega) k _ (by simp only []; omega)).trans ?_
  refine congrArg (rotated · _ b s k) (funext fun e => congrArg (qkv _ _ _ b s) (Fin.ext ?_))
  simp only []; omega

/-- The values. -/
theorem v_result (b : Fin 2) (s : Fin 512) (h : Fin 8) (k : Fin 128) :
    (show FVec Ideal S2x512x8x128 .bf16 from W5 m ρ c (Proc.devRef .tc main_v31)) (ix4 b s h k)
      = qkv (inX m c) (inW m c) (inS m c) b s ⟨9216 + (h.val * 128 + k.val), by omega⟩ := by
  rw [v_part]
  unfold result
  rw [wts_line, scls_line]
  exact result_value (inX m c) _ _ _ _ _ b s (back_at m ρ c hr b s) _ (by simp only []; omega)

/-- The codes. -/
theorem codes_result (b : Fin 2) (s : Fin 512) (k : Fin 8192) :
    (show FVec Ideal S2x512x8192 .fp8e4m3 from W5 m ρ c (Proc.devRef .tc main_v32)) (ix3 b s k) = qcode (inX m c) b s k := by
  rw [codes_part]
  exact code_row (inX m c) _ b s (rows_at m ρ c b s) (hr b s) k

/-- The scales. -/
theorem scales_result (b : Fin 2) (s : Fin 512) (g : Fin 64) :
    (show FVec Ideal S2x512x64 .f32 from W5 m ρ c (Proc.devRef .tc main_v33)) (ix3 b s g) = qscale (inX m c) b s g := by
  rw [scales_part]
  exact kscale_row (inX m c) _ b s (rows_at m ρ c b s) (hr b s) g

end Cert.KernelIdeal.Value

end
-- ==== Proof.RefCall.lean ====
/- The arrays the reference's cast call leaves: the clipped quotients, twice, and the weights' codes. -/
module

public import proofs.«01_k».proof.Proof.Gen.ReferenceIdeal.Frame
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open Idealize.ShloMosaic.Pipeline (Dat Cfg Window)

/-- The codes' block holds the quotients. -/
theorem out2_eq (x0 : Vec Ideal S2x512x8192 .f32) (x1 : Vec Ideal S8192x10240 .fp8e4m3) : out0_2 (F := Ideal) x0 x1 = x0 := by
  unfold out0_2
  rw [View.canon_cons_unit_lit _ _ _ (by decide), View.ld_unit_lit _ _ (by decide)]
  funext y
  unfold k0_pay1
  pointwise []
/-- The widened codes' block holds the quotients. -/
theorem out3_eq (x0 : Vec Ideal S2x512x8192 .f32) (x1 : Vec Ideal S8192x10240 .fp8e4m3) : out0_3 (F := Ideal) x0 x1 = x0 := by
  unfold out0_3
  rw [View.canon_cons_unit_lit _ _ _ (by decide), View.ld_unit_lit _ _ (by decide)]
  funext y
  unfold k0_pay2
  pointwise []
/-- The widened weights' block holds the weights' codes. -/
theorem out4_eq (x0 : Vec Ideal S2x512x8192 .f32) (x1 : Vec Ideal S8192x10240 .fp8e4m3) : out0_4 (F := Ideal) x0 x1 = x1 := by
  unfold out0_4
  rw [View.canon_cons_unit_lit _ _ _ (by decide), View.ld_unit_lit _ _ (by decide)]
  funext y
  unfold k0_pay3
  pointwise []

variable (m : (ℓ : Loc nD τ sig) → Buf (Elt Ideal) ℓ) (c : Dev nD)

/-- Every window's one block is the whole array. -/
theorem idx0 (t : Fin grid0.N) : win0_0.index t = ![0, 0, 0] ∧ win0_1.index t = ![0, 0] ∧ win0_2.index t = ![0, 0, 0] ∧ win0_3.index t = ![0, 0, 0] ∧ win0_4.index t = ![0, 0] := by
  rw [fin_N0 t]; decide +kernel

/-- The quotients' block is the array. -/
theorem in0_at (t : Fin cfg0.N) (y : S2x512x8192.Idx) : (show FVec Ideal S2x512x8192 .f32 from iblk m c 0 t) y = (show FVec Ideal S2x512x8192 .f32 from V m c main_v23) y := by
  unfold iblk
  generalize V m c = G
  blk_ext [idx0 t]
/-- The weights' block is the array. -/
theorem in1_at (t : Fin cfg0.N) (y : S8192x10240.Idx) : (show FVec Ideal S8192x10240 .fp8e4m3 from iblk m c 1 t) y = (show FVec Ideal S8192x10240 .fp8e4m3 from V m c main_arg2) y := by
  unfold iblk
  generalize V m c = G
  blk_ext [idx0 t]

/-- The codes' array. -/
theorem call_codes : (dats m 0 c).arrAt 2 cfg0.N = (show FVec Ideal S2x512x8192 .f32 from V m c main_v23) := by
  refine (dats m 0 c).arrAt_eq_of_covers 2 _ (by decide +kernel) fun t _ y => ?_
  rw [after0_2, out2_eq]
  refine (in0_at m c t _).trans ?_
  generalize V m c = G
  blk_ext [idx0 t]

/-- The widened codes' array. -/
theorem call_wide : (dats m 0 c).arrAt 3 cfg0.N = (show FVec Ideal S2x512x8192 .f32 from V m c main_v23) := by
  refine (dats m 0 c).arrAt_eq_of_covers 3 _ (by decide +kernel) fun t _ y => ?_
  rw [after0_3, out3_eq]
  refine (in0_at m c t _).trans ?_
  generalize V m c = G
  blk_ext [idx0 t]

/-- The widened weights' array. -/
theorem call_wts : (dats m 0 c).arrAt 4 cfg0.N = (show FVec Ideal S8192x10240 .fp8e4m3 from V m c main_arg2) := by
  refine (dats m 0 c).arrAt_eq_of_covers 4 _ (by decide +kernel) fun t _ y => ?_
  rw [after0_4, out4_eq]
  refine (in1_at m c t _).trans ?_
  generalize V m c = G
  blk_ext [idx0 t]

end Cert.ReferenceIdeal.Value

end
-- ==== Proof.RefLines.lean ====
/- The reference's host lines, stretch by stretch, over any buffer contents. -/
module

public import proofs.«01_k».proof.Proof.Gen.ReferenceIdeal.Frame
public import proofs.«01_k».proof.Proof.Spec
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Quant

variable (σ : Valuation τ sig (Elt Ideal))

/-- The last stretch before the call lays the clipped quotients out as features. -/
theorem l4_codes : StableHlo.after hostOps0_4 σ (Proc.devRef .tc main_v23) = shapeCast S2x512x8192 (σ (Proc.devRef .tc main_v22)) shapeCasts_S2x512x64x128_S2x512x8192 := by
  entry_read; rfl
/-- The last stretch before the call raises two to the exponents. -/
theorem l4_scales : StableHlo.after hostOps0_4 σ (Proc.devRef .tc main_v24) = Host.powf (F := Ideal) (φ := .f32) (σ (Proc.devRef .tc main_v16)) (σ (Proc.devRef .tc main_v15)) := by
  entry_read; rfl
/-- The fourth stretch clips the quotients. -/
theorem l3_clip : StableHlo.after hostOps0_3 σ (Proc.devRef .tc main_v22)
    = minimumf (F := Ideal) (φ := .f32) (broadcastInDim S2x512x64x128 ![] bcast_S_S2x512x64x128 (σ (Proc.devRef .tc main_cst_7)))
        (maximumf (F := Ideal) (φ := .f32) (broadcastInDim S2x512x64x128 ![] bcast_S_S2x512x64x128 (σ (Proc.devRef .tc main_cst_6))) (σ (Proc.devRef .tc main_v21))) := by
  entry_read; rfl
/-- The fourth stretch keeps the base two. -/
theorem l3_two : StableHlo.after hostOps0_3 σ (Proc.devRef .tc main_v16) = σ (Proc.devRef .tc main_v16) := by
  entry_read; rfl
/-- The fourth stretch keeps the exponents. -/
theorem l3_exp : StableHlo.after hostOps0_3 σ (Proc.devRef .tc main_v15) = σ (Proc.devRef .tc main_v15) := by
  entry_read; rfl
/-- The third stretch makes the base two. -/
theorem l2_two : StableHlo.after hostOps0_2 σ (Proc.devRef .tc main_v16) = broadcastInDim S2x512x64 ![] bcast_S_S2x512x64 (constant (F := Ideal) S_ .f32 0x40000000#32) := by
  entry_read; rfl
/-- The third stretch keeps the exponents. -/
theorem l2_exp : StableHlo.after hostOps0_2 σ (Proc.devRef .tc main_v15) = σ (Proc.devRef .tc main_v15) := by
  entry_read; rfl
/-- The third stretch makes the lower bound of the codes. -/
theorem l2_lo : StableHlo.after hostOps0_2 σ (Proc.devRef .tc main_cst_6) = constant (F := Ideal) S_ .f32 0xC3E00000#32 := by
  entry_read; rfl
/-- The third stretch makes the upper bound of the codes. -/
theorem l2_hi : StableHlo.after hostOps0_2 σ (Proc.devRef .tc main_cst_7) = constant (F := Ideal) S_ .f32 0x43E00000#32 := by
  entry_read; rfl
/-- The third stretch divides the features by their scales. -/
theorem l2_scaled : StableHlo.after hostOps0_2 σ (Proc.devRef .tc main_v21)
    = mulf (F := Ideal) (φ := .f32) (σ (Proc.devRef .tc main_v1)) (broadcastInDim S2x512x64x128 ![0, 1, 2, 3] bcast_S2x512x64x1_S2x512x64x128_0_1_2_3
        (broadcastInDim S2x512x64x1 ![0, 1, 2] bcast_S2x512x64_S2x512x64x1_0_1_2
          (Host.powf (F := Ideal) (φ := .f32) (broadcastInDim S2x512x64 ![] bcast_S_S2x512x64 (constant (F := Ideal) S_ .f32 0x40000000#32)) (Host.negf (F := Ideal) (φ := .f32) (σ (Proc.devRef .tc main_v15)))))) := by
  entry_read; rfl
/-- The second stretch puts zero where a group's maximum is zero. -/
theorem l1_exp : StableHlo.after hostOps0_1 σ (Proc.devRef .tc main_v15)
    = select (σ (Proc.devRef .tc main_v11)) (broadcastInDim S2x512x64 ![] bcast_S_S2x512x64 (σ (Proc.devRef .tc main_cst_4))) (σ (Proc.devRef .tc main_v14)) := by
  entry_read; rfl
/-- The second stretch keeps the grouped features. -/
theorem l1_rows : StableHlo.after hostOps0_1 σ (Proc.devRef .tc main_v1) = σ (Proc.devRef .tc main_v1) := by
  entry_read; rfl

/-- The numbers in groups. -/
def groups (x : FVec Ideal S2x512x8192 .bf16) : FVec Ideal S2x512x64x128 .f32 := shapeCast S2x512x64x128 (extf .f32 x bitsLt_bf16_f32) shapeCasts_S2x512x8192_S2x512x64x128

/-- The groups' largest magnitudes. -/
def maxima (x : FVec Ideal S2x512x8192 .bf16) : FVec Ideal S2x512x64 .f32 :=
  Host.reduce (FloatOps.maximumf (F := Ideal) (φ := .f32)) (Host.absf (F := Ideal) (groups x)) (constant (F := Ideal) S_ .f32 0xFF800000#32) reducesTo_S2x512x64x128_S2x512x64_d3 h_S_

/-- The first stretch groups the features. -/
theorem l0_rows : StableHlo.after hostOps0 σ (Proc.devRef .tc main_v1) = groups (σ (Proc.devRef .tc main_arg0)) := by
  entry_read; rfl
/-- The first stretch makes the zero. -/
theorem l0_zero : StableHlo.after hostOps0 σ (Proc.devRef .tc main_cst_4) = constant (F := Ideal) S_ .f32 0x00000000#32 := by
  entry_read; rfl
/-- The first stretch finds the groups whose maximum is zero. -/
theorem l0_isZero : StableHlo.after hostOps0 σ (Proc.devRef .tc main_v11)
    = cmpf (F := Ideal) .oeq (maxima (σ (Proc.devRef .tc main_arg0))) (broadcastInDim S2x512x64 ![] bcast_S_S2x512x64 (constant (F := Ideal) S_ .f32 0x00000000#32)) := by
  entry_read; rfl
/-- The first stretch takes the logarithm's floor, plus one, of a group's maximum over 448. -/
theorem l0_floor : StableHlo.after hostOps0 σ (Proc.devRef .tc main_v14)
    = addf (F := Ideal) (Host.floor (F := Ideal) (Host.divf (F := Ideal)
        (Host.log (F := Ideal) (mulf (F := Ideal) (maxima (σ (Proc.devRef .tc main_arg0))) (broadcastInDim S2x512x64 ![] bcast_S_S2x512x64 (constant (F := Ideal) S_ .f32 0x3B124925#32))))
        (Host.log (F := Ideal) (broadcastInDim S2x512x64 ![] bcast_S_S2x512x64 (constant (F := Ideal) S_ .f32 0x40000000#32)))))
        (broadcastInDim S2x512x64 ![] bcast_S_S2x512x64 (constant (F := Ideal) S_ .f32 0x3F800000#32)) := by
  entry_read; rfl

/-- A group's largest magnitude. -/
theorem maxima_at (x : FVec Ideal S2x512x8192 .bf16) (b : Fin 2) (s : Fin 512) (g : Fin 64) : maxima x (ix3 b s g) = amax x b s g := by
  pointwise [maxima, groups]
  rfl

/-- The exponents before the call. -/
def expsOf (M : FVec Ideal S2x512x64 .f32) : FVec Ideal S2x512x64 .f32 :=
  select (cmpf (F := Ideal) .oeq M (broadcastInDim S2x512x64 ![] bcast_S_S2x512x64 (constant (F := Ideal) S_ .f32 0x00000000#32)))
    (broadcastInDim S2x512x64 ![] bcast_S_S2x512x64 (constant (F := Ideal) S_ .f32 0x00000000#32))
    (addf (F := Ideal) (Host.floor (F := Ideal) (Host.divf (F := Ideal)
        (Host.log (F := Ideal) (mulf (F := Ideal) M (broadcastInDim S2x512x64 ![] bcast_S_S2x512x64 (constant (F := Ideal) S_ .f32 0x3B124925#32))))
        (Host.log (F := Ideal) (broadcastInDim S2x512x64 ![] bcast_S_S2x512x64 (constant (F := Ideal) S_ .f32 0x40000000#32)))))
        (broadcastInDim S2x512x64 ![] bcast_S_S2x512x64 (constant (F := Ideal) S_ .f32 0x3F800000#32)))

/-- The exponents of given maxima at an index. -/
theorem expsOf_at (M : FVec Ideal S2x512x64 .f32) (b : Fin 2) (s : Fin 512) (g : Fin 64) : expsOf M (ix3 b s g) = rexp (M (ix3 b s g)) := by
  pointwise [expsOf]
  rw [rexp, log_two]

/-- The exponents of the activations. -/
def exps (x : FVec Ideal S2x512x8192 .bf16) : FVec Ideal S2x512x64 .f32 := expsOf (maxima x)

/-- The exponents at an index. -/
theorem exps_at (x : FVec Ideal S2x512x8192 .bf16) (b : Fin 2) (s : Fin 512) (g : Fin 64) : exps x (ix3 b s g) = rexp (amax x b s g) :=
  (expsOf_at (maxima x) b s g).trans (congrArg rexp (maxima_at x b s g))

/-- The scales from the exponents. -/
def scalesOf (E : FVec Ideal S2x512x64 .f32) : FVec Ideal S2x512x64 .f32 :=
  Host.powf (F := Ideal) (broadcastInDim S2x512x64 ![] bcast_S_S2x512x64 (constant (F := Ideal) S_ .f32 0x40000000#32)) E

/-- The scales at an index. -/
theorem scalesOf_at (E : FVec Ideal S2x512x64 .f32) (b : Fin 2) (s : Fin 512) (g : Fin 64) : scalesOf E (ix3 b s g) = Ideal.pow ((2 : ℝ) : EReal) (E (ix3 b s g)) := by
  pointwise [scalesOf]
  rw [two]

/-- The clipped quotients from the numbers in groups and the exponents. -/
def codesOf (X : FVec Ideal S2x512x64x128 .f32) (E : FVec Ideal S2x512x64 .f32) : FVec Ideal S2x512x8192 .f32 :=
  shapeCast S2x512x8192 (minimumf (F := Ideal) (φ := .f32) (broadcastInDim S2x512x64x128 ![] bcast_S_S2x512x64x128 (constant (F := Ideal) S_ .f32 0x43E00000#32))
        (maximumf (F := Ideal) (φ := .f32) (broadcastInDim S2x512x64x128 ![] bcast_S_S2x512x64x128 (constant (F := Ideal) S_ .f32 0xC3E00000#32))
          (mulf (F := Ideal) (φ := .f32) X (broadcastInDim S2x512x64x128 ![0, 1, 2, 3] bcast_S2x512x64x1_S2x512x64x128_0_1_2_3
        (broadcastInDim S2x512x64x1 ![0, 1, 2] bcast_S2x512x64_S2x512x64x1_0_1_2
          (Host.powf (F := Ideal) (φ := .f32) (broadcastInDim S2x512x64 ![] bcast_S_S2x512x64 (constant (F := Ideal) S_ .f32 0x40000000#32)) (Host.negf (F := Ideal) (φ := .f32) E)))))))
    shapeCasts_S2x512x64x128_S2x512x8192

/-- The clipped quotients at an index. -/
theorem codesOf_at (X : FVec Ideal S2x512x64x128 .f32) (E : FVec Ideal S2x512x64 .f32) (b : Fin 2) (s : Fin 512) (j : Fin 8192) : codesOf X E (ix3 b s j)
    = clip (X (ix4 b s ⟨j.val / 128, by omega⟩ ⟨j.val % 128, by omega⟩) * Ideal.pow ((2 : ℝ) : EReal) (-E (ix3 b s ⟨j.val / 128, by omega⟩))) := by
  pointwise [codesOf]
  rw [two]; rfl

/-- A number in its group. -/
theorem groups_at (x : FVec Ideal S2x512x8192 .bf16) (b : Fin 2) (s : Fin 512) (j : Fin 8192) :
    groups x (ix4 b s ⟨j.val / 128, by omega⟩ ⟨j.val % 128, by omega⟩) = x (ix3 b s j) := by
  pointwise [groups]

/-- The exponents after the reference's second stretch. -/
theorem exps_line : StableHlo.after hostOps0_1 (StableHlo.after hostOps0 σ) (Proc.devRef .tc main_v15) = exps (σ (Proc.devRef .tc main_arg0)) :=
  (l1_exp _).trans (by rw [l0_isZero, l0_zero, l0_floor, exps, expsOf])

/-- The scales when the cast call starts. -/
theorem scales_line : StableHlo.after hostOps0_4 (StableHlo.after hostOps0_3 (StableHlo.after hostOps0_2 (StableHlo.after hostOps0_1 (StableHlo.after hostOps0 σ)))) (Proc.devRef .tc main_v24)
    = scalesOf (exps (σ (Proc.devRef .tc main_arg0))) :=
  (l4_scales _).trans (by rw [l3_two, l2_two, l3_exp, l2_exp, exps_line, scalesOf])

/-- The clipped quotients when the cast call starts. -/
theorem codes_line : StableHlo.after hostOps0_4 (StableHlo.after hostOps0_3 (StableHlo.after hostOps0_2 (StableHlo.after hostOps0_1 (StableHlo.after hostOps0 σ)))) (Proc.devRef .tc main_v23)
    = codesOf (groups (σ (Proc.devRef .tc main_arg0))) (exps (σ (Proc.devRef .tc main_arg0))) :=
  (l4_codes _).trans (by rw [l3_clip, l2_hi, l2_lo, l2_scaled, l1_rows, l0_rows, exps_line, codesOf])

/-- The contents of the buffers when the cast call starts, stretch by stretch. -/
theorem entry_eq (m : (ℓ : Loc nD τ sig) → Buf (Elt Ideal) ℓ) (c : Dev nD) : V0 m c
    = StableHlo.after hostOps0_4 (StableHlo.after hostOps0_3 (StableHlo.after hostOps0_2 (StableHlo.after hostOps0_1 (StableHlo.after hostOps0 fun b => m (c, b))))) := by
  unfold V0
  simp only [List.flatten_cons, List.flatten_nil, List.append_nil, StableHlo.after_append]

variable (m : (ℓ : Loc nD τ sig) → Buf (Elt Ideal) ℓ)

/-- The scales when the call starts. -/
theorem entry_scales (c : Dev nD) : V0 m c (Proc.devRef .tc main_v24) = scalesOf (exps (m (c, Proc.devRef .tc main_arg0))) :=
  (congrFun (entry_eq m c) _).trans (scales_line _)

/-- The clipped quotients when the call starts. -/
theorem entry_codes (c : Dev nD) : V0 m c (Proc.devRef .tc main_v23) = codesOf (groups (m (c, Proc.devRef .tc main_arg0))) (exps (m (c, Proc.devRef .tc main_arg0))) :=
  (congrFun (entry_eq m c) _).trans (codes_line _)

/-- The scales at an index. -/
theorem scales_at (x : FVec Ideal S2x512x8192 .bf16) (b : Fin 2) (s : Fin 512) (g : Fin 64) : scalesOf (exps x) (ix3 b s g) = qscale x b s g :=
  (scalesOf_at _ b s g).trans (congrArg _ (exps_at x b s g))

/-- The clipped quotients at an index. -/
theorem codes_at (x : FVec Ideal S2x512x8192 .bf16) (b : Fin 2) (s : Fin 512) (j : Fin 8192) : codesOf (groups x) (exps x) (ix3 b s j) = qcode x b s j := by
  rw [codesOf_at, groups_at, exps_at, qcode]

end Cert.ReferenceIdeal.Value

end
-- ==== Proof.RefTail.lean ====
/- The reference's host lines after the cast call, over any buffer contents, and their results at an index. -/
module

public import proofs.«01_k».proof.Proof.RefLines

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Quant

variable (σ : Valuation τ sig (Elt Ideal))

/-- The activations from their codes and scales. -/
def acts (A : FVec Ideal S2x512x8192 .bf16) (Sc : FVec Ideal S2x512x64 .f32) : FVec Ideal S2x512x8192 .bf16 :=
  shapeCast S2x512x8192 (mulf (F := Ideal) (φ := .bf16) (shapeCast S2x512x64x128 A shapeCasts_S2x512x8192_S2x512x64x128)
    (broadcastInDim S2x512x64x128 ![0, 1, 2, 3] bcast_S2x512x64x1_S2x512x64x128_0_1_2_3
      (broadcastInDim S2x512x64x1 ![0, 1, 2] bcast_S2x512x64_S2x512x64x1_0_1_2 (truncf (F := Ideal) .bf16 Sc bitsLt_bf16_f32))))
    shapeCasts_S2x512x64x128_S2x512x8192

/-- The weights from their codes and scales. -/
def wts (W : FVec Ideal S8192x10240 .bf16) (S : FVec Ideal S64x80 .f32) : FVec Ideal S8192x10240 .bf16 :=
  shapeCast S8192x10240 (mulf (F := Ideal) (φ := .bf16) (shapeCast S64x128x80x128 W shapeCasts_S8192x10240_S64x128x80x128)
    (broadcastInDim S64x128x80x128 ![0, 1, 2, 3] bcast_S64x1x80x1_S64x128x80x128_0_1_2_3
      (broadcastInDim S64x1x80x1 ![0, 2] bcast_S64x80_S64x1x80x1_0_2 (truncf (F := Ideal) .bf16 S bitsLt_bf16_f32))))
    shapeCasts_S64x128x80x128_S8192x10240

/-- The projection. -/
def product (A : FVec Ideal S2x512x8192 .bf16) (W : FVec Ideal S8192x10240 .bf16) : FVec Ideal S2x512x10240 .f32 :=
  Host.dotGeneral (F := Ideal) dot_S2x512x8192_S8192x10240_S2x512x10240_2_0_01_1_n_n none A W

/-- The angles. -/
def angles (P : IVec S2x512 32) : FVec Ideal S2x512x64 .f32 :=
  mulf (F := Ideal) (φ := .f32) (broadcastInDim S2x512x64 ![0, 1, 2] bcast_S2x512x1_S2x512x64_0_1_2
      (broadcastInDim S2x512x1 ![0, 1] bcast_S2x512_S2x512x1_0_1 (sitofp (F := Ideal) .f32 P)))
    (broadcastInDim S2x512x64 ![0, 1, 2] bcast_S1x1x64_S2x512x64_0_1_2
      (broadcastInDim S1x1x64 ![2] bcast_S64_S1x1x64_2
        (Host.divf (F := Ideal) (φ := .f32) (broadcastInDim S64 ![] bcast_S_S64 (constant (F := Ideal) S_ .f32 0x3F800000#32))
          (Host.powf (F := Ideal) (φ := .f32) (broadcastInDim S64 ![] bcast_S_S64 (constant (F := Ideal) S_ .f32 0x461C4000#32))
            (Host.divf (F := Ideal) (φ := .f32)
              (addf (F := Ideal) (φ := .f32) (broadcastInDim S64 ![] bcast_S_S64 (constant (F := Ideal) S_ .f32 0x00000000#32))
                (mulf (F := Ideal) (φ := .f32) (broadcastInDim S64 ![] bcast_S_S64 (constant (F := Ideal) S_ .f32 0x40000000#32)) (sitofp (F := Ideal) .f32 (iotaInDim S64 32 0))))
              (broadcastInDim S64 ![] bcast_S_S64 (constant (F := Ideal) S_ .f32 0x43000000#32)))))))

/-- The query heads' columns. -/
def qCols (Y : FVec Ideal S2x512x10240 .f32) : FVec Ideal S2x512x64x128 .f32 :=
  shapeCast S2x512x64x128 (extractStridedSlice S2x512x8192 ![0, 0, 0] Y slices_S2x512x10240_S2x512x8192_0_0_0) shapeCasts_S2x512x8192_S2x512x64x128
/-- The key heads' columns. -/
def kCols (Y : FVec Ideal S2x512x10240 .f32) : FVec Ideal S2x512x8x128 .f32 :=
  shapeCast S2x512x8x128 (extractStridedSlice S2x512x1024 ![0, 0, 8192] Y slices_S2x512x10240_S2x512x1024_0_0_8192) shapeCasts_S2x512x1024_S2x512x8x128
/-- The value heads' columns. -/
def vCols (Y : FVec Ideal S2x512x10240 .f32) : FVec Ideal S2x512x8x128 .f32 :=
  shapeCast S2x512x8x128 (extractStridedSlice S2x512x1024 ![0, 0, 9216] Y slices_S2x512x10240_S2x512x1024_0_0_9216) shapeCasts_S2x512x1024_S2x512x8x128

/-- The rotated query heads. -/
def qRot (Y : FVec Ideal S2x512x64x128 .f32) (T : FVec Ideal S2x512x64 .f32) : FVec Ideal S2x512x64x128 .bf16 :=
  let c := broadcastInDim S2x512x64x64 ![0, 1, 2, 3] bcast_S2x512x1x64_S2x512x64x64_0_1_2_3 (broadcastInDim S2x512x1x64 ![0, 1, 3] bcast_S2x512x64_S2x512x1x64_0_1_3 (Host.cos (F := Ideal) (φ := .f32) T))
  let n := broadcastInDim S2x512x64x64 ![0, 1, 2, 3] bcast_S2x512x1x64_S2x512x64x64_0_1_2_3 (broadcastInDim S2x512x1x64 ![0, 1, 3] bcast_S2x512x64_S2x512x1x64_0_1_3 (Host.sin (F := Ideal) (φ := .f32) T))
  let a := extractStridedSlice S2x512x64x64 ![0, 0, 0, 0] Y slices_S2x512x64x128_S2x512x64x64_0_0_0_0
  let b := extractStridedSlice S2x512x64x64 ![0, 0, 0, 64] Y slices_S2x512x64x128_S2x512x64x64_0_0_0_64
  truncf (F := Ideal) (φ := .f32) .bf16 (concatenate S2x512x64x128 3
    [⟨S2x512x64x64, subf (F := Ideal) (φ := .f32) (mulf (F := Ideal) (φ := .f32) a c) (mulf (F := Ideal) (φ := .f32) b n)⟩,
     ⟨S2x512x64x64, addf (F := Ideal) (φ := .f32) (mulf (F := Ideal) (φ := .f32) b c) (mulf (F := Ideal) (φ := .f32) a n)⟩]
    concatenates_S2x512x64x64_S2x512x64x64_S2x512x64x128_d3) bitsLt_bf16_f32

/-- The rotated key heads. -/
def kRot (Y : FVec Ideal S2x512x8x128 .f32) (T : FVec Ideal S2x512x64 .f32) : FVec Ideal S2x512x8x128 .bf16 :=
  let c := broadcastInDim S2x512x8x64 ![0, 1, 2, 3] bcast_S2x512x1x64_S2x512x8x64_0_1_2_3 (broadcastInDim S2x512x1x64 ![0, 1, 3] bcast_S2x512x64_S2x512x1x64_0_1_3 (Host.cos (F := Ideal) (φ := .f32) T))
  let n := broadcastInDim S2x512x8x64 ![0, 1, 2, 3] bcast_S2x512x1x64_S2x512x8x64_0_1_2_3 (broadcastInDim S2x512x1x64 ![0, 1, 3] bcast_S2x512x64_S2x512x1x64_0_1_3 (Host.sin (F := Ideal) (φ := .f32) T))
  let a := extractStridedSlice S2x512x8x64 ![0, 0, 0, 0] Y slices_S2x512x8x128_S2x512x8x64_0_0_0_0
  let b := extractStridedSlice S2x512x8x64 ![0, 0, 0, 64] Y slices_S2x512x8x128_S2x512x8x64_0_0_0_64
  truncf (F := Ideal) (φ := .f32) .bf16 (concatenate S2x512x8x128 3
    [⟨S2x512x8x64, subf (F := Ideal) (φ := .f32) (mulf (F := Ideal) (φ := .f32) a c) (mulf (F := Ideal) (φ := .f32) b n)⟩,
     ⟨S2x512x8x64, addf (F := Ideal) (φ := .f32) (mulf (F := Ideal) (φ := .f32) b c) (mulf (F := Ideal) (φ := .f32) a n)⟩]
    concatenates_S2x512x8x64_S2x512x8x64_S2x512x8x128_d3) bitsLt_bf16_f32

/-- The projection over the buffers the last stretch starts from. -/
def proj : FVec Ideal S2x512x10240 .f32 :=
  product (acts (σ (Proc.devRef .tc main_v25_1)) (σ (Proc.devRef .tc main_v24))) (wts (σ (Proc.devRef .tc main_v25_2)) (σ (Proc.devRef .tc main_arg3)))

/-- What the last stretch leaves in the queries' result. -/
theorem q_line : StableHlo.after hostOps1 σ (Proc.devRef .tc main_v79) = qRot (qCols (proj σ)) (angles (σ (Proc.devRef .tc main_arg1))) := by
  entry_read; rfl
/-- What the last stretch leaves in the keys' result. -/
theorem k_line : StableHlo.after hostOps1 σ (Proc.devRef .tc main_v95) = kRot (kCols (proj σ)) (angles (σ (Proc.devRef .tc main_arg1))) := by
  entry_read; rfl
/-- What the last stretch leaves in the values' result. -/
theorem v_line : StableHlo.after hostOps1 σ (Proc.devRef .tc main_v96) = (vCols (proj σ) : S2x512x8x128.Idx → EReal) := by
  entry_read; rfl
/-- What the last stretch leaves in the scales' result. -/
theorem s_line : StableHlo.after hostOps1 σ (Proc.devRef .tc main_v24) = σ (Proc.devRef .tc main_v24) := by
  entry_read; rfl

/-- An activation is its code times its group's scale. -/
theorem acts_at (A : FVec Ideal S2x512x8192 .bf16) (Sc : FVec Ideal S2x512x64 .f32) (b : Fin 2) (s : Fin 512) (k : Fin 8192) :
    acts A Sc (ix3 b s k) = A (ix3 b s k) * Sc (ix3 b s ⟨k.val / 128, by omega⟩) := by
  unfold acts; pointwise []

/-- A weight is its code times its block's scale. -/
theorem wts_at (W : FVec Ideal S8192x10240 .bf16) (S : FVec Ideal S64x80 .f32) (k : Fin 8192) (n : Fin 10240) :
    wts W S (ix2 k n) = W (ix2 k n) * S (ix2 ⟨k.val / 128, by omega⟩ ⟨n.val / 128, by omega⟩) := by
  unfold wts; pointwise []

/-- The projection at a position and a column is a sum over the features. -/
theorem product_at (A : FVec Ideal S2x512x8192 .bf16) (W : FVec Ideal S8192x10240 .bf16) (b : Fin 2) (s : Fin 512) (n : Fin 10240) :
    product A W (ix3 b s n) = ∑ k : Fin 8192, A (ix3 b s k) * W (ix2 k n) := by
  unfold product; pointwise []

/-- The angle of a position and a pair. -/
theorem angles_at (P : IVec S2x512 32) (b : Fin 2) (s : Fin 512) (d : Fin 64) : angles P (ix3 b s d) = angle P b s d.val := by
  unfold angles; pointwise []; rfl

/-- Query head `h` starts at column `128 * h`. -/
theorem qCols_at (Y : FVec Ideal S2x512x10240 .f32) (b : Fin 2) (s : Fin 512) (h : Fin 64) (k : Fin 128) :
    qCols Y (ix4 b s h k) = Y (ix3 b s ⟨h.val * 128 + k.val, by omega⟩) := by
  unfold qCols; pointwise []
/-- Key head `h` starts at column `8192 + 128 * h`. -/
theorem kCols_at (Y : FVec Ideal S2x512x10240 .f32) (b : Fin 2) (s : Fin 512) (h : Fin 8) (k : Fin 128) :
    kCols Y (ix4 b s h k) = Y (ix3 b s ⟨8192 + (h.val * 128 + k.val), by omega⟩) := by
  unfold kCols; pointwise []
/-- Value head `h` starts at column `9216 + 128 * h`. -/
theorem vCols_at (Y : FVec Ideal S2x512x10240 .f32) (b : Fin 2) (s : Fin 512) (h : Fin 8) (k : Fin 128) :
    vCols Y (ix4 b s h k) = Y (ix3 b s ⟨9216 + (h.val * 128 + k.val), by omega⟩) := by
  unfold vCols; pointwise []

/-- A rotated head over any angles. -/
def turned (T : Fin 128 → EReal) (A : Fin 64 → EReal) (d : Fin 128) : EReal :=
  if h : d.val < 64 then T d * Ideal.cos (A ⟨d.val, h⟩) - T ⟨64 + d.val, by omega⟩ * Ideal.sin (A ⟨d.val, h⟩)
  else T ⟨64 + (d.val - 64), by omega⟩ * Ideal.cos (A ⟨d.val - 64, by omega⟩) + T ⟨d.val - 64, by omega⟩ * Ideal.sin (A ⟨d.val - 64, by omega⟩)

/-- At the reference's angles it is the specification's. -/
theorem turned_eq (T : Fin 128 → EReal) (P : IVec S2x512 32) (b : Fin 2) (s : Fin 512) (d : Fin 128) :
    turned T (fun d => angles P (ix3 b s d)) d = rotated T P b s d := by
  unfold turned rotated
  split
  · have e : (⟨64 + d.val, by omega⟩ : Fin 128) = ⟨d.val + 64, by omega⟩ := Fin.ext (Nat.add_comm _ _)
    beta_reduce; rw [angles_at, e]
  · have e : (⟨64 + (d.val - 64), by omega⟩ : Fin 128) = d := Fin.ext (by simp only []; omega)
    beta_reduce; rw [angles_at, e]

/-- The rotated query heads at an index. -/
theorem qRot_at (Y : FVec Ideal S2x512x64x128 .f32) (T : FVec Ideal S2x512x64 .f32) (b : Fin 2) (s : Fin 512) (h : Fin 64) (k : Fin 128) :
    qRot Y T (ix4 b s h k) = turned (fun e => Y (ix4 b s h e)) (fun d => T (ix3 b s d)) k := by
  unfold qRot; pointwise []; rfl
/-- The rotated key heads at an index. -/
theorem kRot_at (Y : FVec Ideal S2x512x8x128 .f32) (T : FVec Ideal S2x512x64 .f32) (b : Fin 2) (s : Fin 512) (h : Fin 8) (k : Fin 128) :
    kRot Y T (ix4 b s h k) = turned (fun e => Y (ix4 b s h e)) (fun d => T (ix3 b s d)) k := by
  unfold kRot; pointwise []; rfl

/-- The projection of arrays known at their indices. -/
theorem project_at (A : FVec Ideal S2x512x8192 .bf16) (Sc : FVec Ideal S2x512x64 .f32) (W : FVec Ideal S8192x10240 .bf16) (S : FVec Ideal S64x80 .f32) (X : Acts)
    (hA : ∀ b s k, A (ix3 b s k) = qcode X b s k) (hS : ∀ b s g, Sc (ix3 b s g) = qscale X b s g) (b : Fin 2) (s : Fin 512) (n : Fin 10240) :
    product (acts A Sc) (wts W S) (ix3 b s n) = qkv X W S b s n := by
  rw [product_at]
  refine Finset.sum_congr rfl fun k _ => ?_
  rw [acts_at, wts_at, hA, hS]

section
variable (Y : FVec Ideal S2x512x10240 .f32) (P : IVec S2x512 32) (X : Acts) (W : Wts) (S : Scls) (hY : ∀ b s n, Y (ix3 b s n) = qkv X W S b s n)
include hY

/-- The queries at an index. -/
theorem queries_at (b : Fin 2) (s : Fin 512) (h : Fin 64) (k : Fin 128) :
    qRot (qCols Y) (angles P) (ix4 b s h k) = rotated (fun e => qkv X W S b s ⟨h.val * 128 + e.val, by omega⟩) P b s k := by
  rw [qRot_at, turned_eq]
  simp only [qCols_at, hY]
/-- The keys at an index. -/
theorem keys_at (b : Fin 2) (s : Fin 512) (h : Fin 8) (k : Fin 128) :
    kRot (kCols Y) (angles P) (ix4 b s h k) = rotated (fun e => qkv X W S b s ⟨8192 + (h.val * 128 + e.val), by omega⟩) P b s k := by
  rw [kRot_at, turned_eq]
  simp only [kCols_at, hY]
/-- The values at an index. -/
theorem values_at (b : Fin 2) (s : Fin 512) (h : Fin 8) (k : Fin 128) :
    vCols Y (ix4 b s h k) = qkv X W S b s ⟨9216 + (h.val * 128 + k.val), by omega⟩ := by
  rw [vCols_at, hY]
end

end Cert.ReferenceIdeal.Value

end
-- ==== Proof.RefValue.lean ====
/- The reference program's run and its results at an index. -/
module

public import proofs.«01_k».proof.Proof.RefCall
public import proofs.«01_k».proof.Proof.RefTail

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Quant
open Idealize.ShloMosaic.Pipeline (Dat Cfg Window)

variable (m : (ℓ : Loc nD τ sig) → Buf (Elt Ideal) ℓ) (ρ : Dev nD → PrngReg) (c : Dev nD)

/-- The activations. -/
abbrev inX : Acts := m ((c.tc : Thread nD τ).loc main_arg0)
/-- The positions. -/
abbrev inP : Poss := m ((c.tc : Thread nD τ).loc main_arg1)
/-- The weights' codes. -/
abbrev inW : Wts := m ((c.tc : Thread nD τ).loc main_arg2)
/-- The weights' scales. -/
abbrev inS : Scls := m ((c.tc : Thread nD τ).loc main_arg3)

/-- The buffers when the cast call has ended. -/
def mid : Valuation τ sig (Elt Ideal) := Pipeline.withArrays (cfgs 0).spec c (V0 m c) fun w => (dats m 0 c).arrAt w (cfgs 0).N

/-- The buffers when the program has ended. -/
def fin (b : Ref sig .tc) : Buf (Elt Ideal) ((c.tc : Thread nD τ).loc b) := StableHlo.after hostOps1 (mid m c) (Proc.devRef .tc b)

/-- The lines after the call start from its buffers. -/
theorem tail_eq (b : Ref sig .tc) : Pipeline.afterTail₀ cfgs (dats m) 0 (V0 m) [hostOps1] c b = fin m c b := by
  unfold Pipeline.afterTail₀ fin mid
  simp only [List.flatten_cons, List.flatten_nil, List.append_nil]

/-- The call leaves the widened codes. -/
theorem mid_codes : mid m c (Proc.devRef .tc main_v25_1) = (show FVec Ideal S2x512x8192 .f32 from V0 m c (Proc.devRef .tc main_v23)) := by
  unfold mid
  exact (Pipeline.withArrays_arr spec0 launch0.win.arr_inj c _ _ 3).trans (call_wide m c)
/-- The call leaves the widened weights' codes. -/
theorem mid_wts : mid m c (Proc.devRef .tc main_v25_2) = inW m c := by
  unfold mid
  exact (Pipeline.withArrays_arr spec0 launch0.win.arr_inj c _ _ 4).trans ((call_wts m c).trans (V_main_arg2 m c))
/-- The call leaves the scales. -/
theorem mid_scales : mid m c (Proc.devRef .tc main_v24) = V0 m c (Proc.devRef .tc main_v24) := by
  unfold mid
  exact Pipeline.withArrays_of_ne spec0 c _ _ main_v24 (by decide +kernel)
/-- The call leaves the positions. -/
theorem mid_pos : mid m c (Proc.devRef .tc main_arg1) = inP m c := by
  unfold mid
  exact (Pipeline.withArrays_of_ne spec0 c _ _ main_arg1 (by decide +kernel)).trans (V_main_arg1 m c)
/-- The call leaves the weights' scales. -/
theorem mid_scls : mid m c (Proc.devRef .tc main_arg3) = inS m c := by
  unfold mid
  exact (Pipeline.withArrays_of_ne spec0 c _ _ main_arg3 (by decide +kernel)).trans (V_main_arg3 m c)

/-- The widened codes at an index. -/
theorem mid_codes_at (b : Fin 2) (s : Fin 512) (k : Fin 8192) : (show FVec Ideal S2x512x8192 .bf16 from mid m c (Proc.devRef .tc main_v25_1)) (ix3 b s k) = qcode (inX m c) b s k :=
  (congrFun ((mid_codes m c).trans (entry_codes m c)) (ix3 b s k)).trans (codes_at _ b s k)
/-- The scales at an index. -/
theorem mid_scales_at (b : Fin 2) (s : Fin 512) (g : Fin 64) : (show FVec Ideal S2x512x64 .f32 from mid m c (Proc.devRef .tc main_v24)) (ix3 b s g) = qscale (inX m c) b s g :=
  (congrFun ((mid_scales m c).trans (entry_scales m c)) (ix3 b s g)).trans (scales_at _ b s g)

/-- The projection at an index. -/
theorem proj_at (b : Fin 2) (s : Fin 512) (n : Fin 10240) : proj (mid m c) (ix3 b s n) = qkv (inX m c) (inW m c) (inS m c) b s n := by
  unfold proj
  rw [mid_wts, mid_scls]
  exact project_at _ _ (inW m c) (inS m c) (inX m c) (mid_codes_at m c) (mid_scales_at m c) b s n

/-- The queries. -/
theorem q_result (b : Fin 2) (s : Fin 512) (h : Fin 64) (k : Fin 128) :
    (show FVec Ideal S2x512x64x128 .bf16 from fin m c main_v79) (ix4 b s h k)
      = rotated (fun e => qkv (inX m c) (inW m c) (inS m c) b s ⟨h.val * 128 + e.val, by omega⟩) (inP m c) b s k := by
  refine (congrFun (q_line (mid m c)) (ix4 b s h k)).trans ?_
  rw [mid_pos]
  exact queries_at _ (inP m c) _ _ _ (proj_at m c) b s h k
/-- The keys. -/
theorem k_result (b : Fin 2) (s : Fin 512) (h : Fin 8) (k : Fin 128) :
    (show FVec Ideal S2x512x8x128 .bf16 from fin m c main_v95) (ix4 b s h k)
      = rotated (fun e => qkv (inX m c) (inW m c) (inS m c) b s ⟨8192 + (h.val * 128 + e.val), by omega⟩) (inP m c) b s k := by
  refine (congrFun (k_line (mid m c)) (ix4 b s h k)).trans ?_
  rw [mid_pos]
  exact keys_at _ (inP m c) _ _ _ (proj_at m c) b s h k
/-- The values. -/
theorem v_result (b : Fin 2) (s : Fin 512) (h : Fin 8) (k : Fin 128) :
    (show FVec Ideal S2x512x8x128 .bf16 from fin m c main_v96) (ix4 b s h k)
      = qkv (inX m c) (inW m c) (inS m c) b s ⟨9216 + (h.val * 128 + k.val), by omega⟩ :=
  (congrFun (v_line (mid m c)) (ix4 b s h k)).trans (values_at _ _ _ _ (proj_at m c) b s h k)
/-- The codes. -/
theorem codes_result (b : Fin 2) (s : Fin 512) (k : Fin 8192) :
    (show FVec Ideal S2x512x8192 .fp8e4m3 from (dats m 0 c).arrAt 2 cfg0.N) (ix3 b s k) = qcode (inX m c) b s k :=
  (congrFun ((call_codes m c).trans (entry_codes m c)) (ix3 b s k)).trans (codes_at _ b s k)
/-- The scales. -/
theorem scales_result (b : Fin 2) (s : Fin 512) (g : Fin 64) :
    (show FVec Ideal S2x512x64 .f32 from fin m c main_v24) (ix3 b s g) = qscale (inX m c) b s g :=
  (congrFun (s_line (mid m c)) (ix3 b s g)).trans (mid_scales_at m c b s g)

/-- Every weakly fair execution ends with these results and the arguments unchanged. -/
theorem run : θ_run (defs (F := Ideal)) (onTc (τ := τ) (main (F := Ideal))) ⟨m, fun _ => 0, ρ⟩ (fun r => ∀ c : Dev nD,
      r.2.mem ((c.tc : Thread nD τ).loc main_v79) = fin m c main_v79
      ∧ r.2.mem ((c.tc : Thread nD τ).loc main_v95) = fin m c main_v95
      ∧ r.2.mem ((c.tc : Thread nD τ).loc main_v96) = fin m c main_v96
      ∧ r.2.mem ((c.tc : Thread nD τ).loc main_v25_0) = (dats m 0 c).arrAt 2 cfg0.N
      ∧ r.2.mem ((c.tc : Thread nD τ).loc main_v24) = fin m c main_v24
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v79 (Pipeline.mem_restRefs_of main_v79 (by decide) (by decide))).trans (tail_eq m c main_v79),
      ((h c).2 main_v95 (Pipeline.mem_restRefs_of main_v95 (by decide) (by decide))).trans (tail_eq m c main_v95),
      ((h c).2 main_v96 (Pipeline.mem_restRefs_of main_v96 (by decide) (by decide))).trans (tail_eq m c main_v96),
      (h c).1 2,
      ((h c).2 main_v24 (Pipeline.mem_restRefs_of main_v24 (by decide) (by decide))).trans (tail_eq m c main_v24),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩) (run_main m ρ)

end Cert.ReferenceIdeal.Value

end
-- ==== Proof.Range.lean ====
/- The precondition says that every group's largest magnitude is in range. -/
module

public import proofs.«01_k».proof.Proof.Gen.Pre_group_maxima_in_range
public import proofs.«01_k».proof.Proof.Spec
public import Idealize.ShloMosaic.Lib.Pipeline.ValueKit

@[expose] public section

set_option maxRecDepth 16384

noncomputable section

namespace Cert.Quant

open Idealize.ShloMosaic Cert.Pre_group_maxima_in_range Cert.Pre_group_maxima_in_range.Facts

/-- The predicate's maxima of a group's magnitudes. -/
def topOf [Facts] (X : FVec Ideal S2x512x8192 .bf16) : FVec Ideal S2x512x64 .f32 :=
  Host.reduce (FloatOps.maximumf (F := Ideal) (φ := .f32)) (Host.absf (F := Ideal) (shapeCast S2x512x64x128 (extf (F := Ideal) .f32 X bitsLt_bf16_f32) shapeCasts_S2x512x8192_S2x512x64x128))
    (constant (F := Ideal) S_ .f32 0xFF800000#32) reducesTo_S2x512x64x128_S2x512x64_d3 h_S_

/-- At an index they are the specification's. -/
theorem topOf_at [Facts] (X : FVec Ideal S2x512x8192 .bf16) (b : Fin 2) (s : Fin 512) (g : Fin 64) : topOf X (ix3 b s g) = amax X b s g := by
  pointwise [topOf]
  rfl

/-- The predicate's comparisons. -/
def within [Facts] (M : FVec Ideal S2x512x64 .f32) : IVec S2x512x64 1 :=
  ori (cmpf (F := Ideal) .oeq M (broadcastInDim S2x512x64 ![] bcast_S_S2x512x64 (constant (F := Ideal) S_ .f32 0x00000000#32)))
    (andi (cmpf (F := Ideal) .oge M (broadcastInDim S2x512x64 ![] bcast_S_S2x512x64 (constant (F := Ideal) S_ .f32 0x04600000#32)))
      (cmpf (F := Ideal) .ole M (broadcastInDim S2x512x64 ![] bcast_S_S2x512x64 (constant (F := Ideal) S_ .f32 0x7F7F0000#32))))

/-- Where the predicate's comparisons hold, the magnitude is in range. -/
theorem within_at [Facts] (M : FVec Ideal S2x512x64 .f32) (b : Fin 2) (s : Fin 512) (g : Fin 64) (h : within M (ix3 b s g) = 1#1) : InRange (M (ix3 b s g)) := by
  revert h
  pointwise [within]
  unfold InRange
  generalize M (ix3 b s g) = a
  intro h
  by_cases h0 : a = 0
  · exact .inl h0
  refine .inr ⟨?_, ?_⟩
  · by_contra h1
    simp [IntOp.ori, IntOp.andi, h0, h1] at h
  · by_contra h1
    simp [IntOp.ori, IntOp.andi, h0, h1] at h

/-- Under the precondition every group's largest magnitude is in range. -/
theorem inRange_of_pre [Facts] (X : FVec Ideal S2x512x8192 .bf16) (P : IVec S2x512 32) (W : FVec Ideal S8192x10240 .fp8e4m3) (S : FVec Ideal S64x80 .f32)
    (h : fn (F := Ideal) X P W S = fun _ => 1#1) (b : Fin 2) (s : Fin 512) (g : Fin 64) : InRange (amax X b s g) := by
  have e : fn (F := Ideal) X P W S = within (topOf X) := rfl
  rw [← topOf_at]
  exact within_at _ b s g (congrFun (e.symm.trans h) _)

end Cert.Quant

end
-- ==== Proof.Equal.lean ====
/- The two programs end with equal results. -/
module

public import proofs.«01_k».proof.Defs
public import proofs.«01_k».proof.Proof.Gen.KernelIdeal
public import proofs.«01_k».proof.Proof.Gen.ReferenceIdeal
public import proofs.«01_k».proof.Proof.Gen.Pre_group_maxima_in_range
public import proofs.«01_k».proof.Proof.KernelValue
public import proofs.«01_k».proof.Proof.RefValue
public import proofs.«01_k».proof.Proof.Range

@[expose] public section

set_option maxRecDepth 16384

noncomputable section

namespace Cert.Equal

open Idealize.ShloMosaic Idealize.ShloMosaic.TcCoe Idealize.SL.Sem Cert.Quant

/-- Arrays with three axes are equal when they are equal at every index. -/
theorem ext3 {a b c : ℕ} (f g : (⟨3, ![a, b, c]⟩ : Shape).Idx → EReal) (h : ∀ x y z, f (ix3 x y z) = g (ix3 x y z)) : f = g := by
  funext i
  have e : i = ix3 (i 0) (i 1) (i 2) := by
    funext a
    fin_cases a <;> rfl
  rw [e]
  exact h _ _ _

/-- Arrays with four axes are equal when they are equal at every index. -/
theorem ext4 {a b c d : ℕ} (f g : (⟨4, ![a, b, c, d]⟩ : Shape).Idx → EReal) (h : ∀ x y z w, f (ix4 x y z w) = g (ix4 x y z w)) : f = g := by
  funext i
  have e : i = ix4 (i 0) (i 1) (i 2) (i 3) := by
    funext a
    fin_cases a <;> rfl
  rw [e]
  exact h _ _ _ _

section
variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)
  (h0 : ReferenceIdeal.Value.inX m' c = KernelIdeal.Value.inX m c) (h1 : ReferenceIdeal.Value.inP m' c = KernelIdeal.Value.inP m c)
  (h2 : ReferenceIdeal.Value.inW m' c = KernelIdeal.Value.inW m c) (h3 : ReferenceIdeal.Value.inS m' c = KernelIdeal.Value.inS m c)
  (hr : ∀ b s g, InRange (amax (KernelIdeal.Value.inX m c) b s g))
include h0 hr

/-- The codes agree. -/
theorem codes : (show FVec Ideal KernelIdeal.S2x512x8192 .fp8e4m3 from (ReferenceIdeal.Gen.dats m' 0 c).arrAt 2 ReferenceIdeal.cfg0.N)
    = KernelIdeal.Gen.W5 m ρ c (Proc.devRef .tc KernelIdeal.main_v32) :=
  ext3 _ _ fun b s k => (ReferenceIdeal.Value.codes_result m' c b s k).trans (by rw [h0]; exact (KernelIdeal.Value.codes_result m ρ c hr b s k).symm)
/-- The scales agree. -/
theorem scales : (show FVec Ideal KernelIdeal.S2x512x64 .f32 from ReferenceIdeal.Value.fin m' c ReferenceIdeal.main_v24)
    = KernelIdeal.Gen.W5 m ρ c (Proc.devRef .tc KernelIdeal.main_v33) :=
  ext3 _ _ fun b s g => (ReferenceIdeal.Value.scales_result m' c b s g).trans (by rw [h0]; exact (KernelIdeal.Value.scales_result m ρ c hr b s g).symm)

include h2 h3
/-- The values agree. -/
theorem values : (show FVec Ideal KernelIdeal.S2x512x8x128 .bf16 from ReferenceIdeal.Value.fin m' c ReferenceIdeal.main_v96)
    = KernelIdeal.Gen.W5 m ρ c (Proc.devRef .tc KernelIdeal.main_v31) :=
  ext4 _ _ fun b s h k => (ReferenceIdeal.Value.v_result m' c b s h k).trans (by rw [h0, h2, h3]; exact (KernelIdeal.Value.v_result m ρ c hr b s h k).symm)
include h1
/-- The queries agree. -/
theorem queries : (show FVec Ideal KernelIdeal.S2x512x64x128 .bf16 from ReferenceIdeal.Value.fin m' c ReferenceIdeal.main_v79)
    = KernelIdeal.Gen.W5 m ρ c (Proc.devRef .tc KernelIdeal.main_v27) :=
  ext4 _ _ fun b s h k => (ReferenceIdeal.Value.q_result m' c b s h k).trans (by rw [h0, h1, h2, h3]; exact (KernelIdeal.Value.q_result m ρ c hr b s h k).symm)
/-- The keys agree. -/
theorem keys : (show FVec Ideal KernelIdeal.S2x512x8x128 .bf16 from ReferenceIdeal.Value.fin m' c ReferenceIdeal.main_v95)
    = KernelIdeal.Gen.W5 m ρ c (Proc.devRef .tc KernelIdeal.main_v29) :=
  ext4 _ _ fun b s h k => (ReferenceIdeal.Value.k_result m' c b s h k).trans (by rw [h0, h1, h2, h3]; exact (KernelIdeal.Value.k_result m ρ c hr b s h k).symm)
end

open KernelIdeal KernelIdeal.Gen in
/-- From memories agreeing on the arguments, in range, both programs run to equal results and unchanged arguments. -/
theorem algebraic : Cert.algebraic_KernelIdeal_ReferenceIdeal_pre_group_maxima_in_range (hKernelIdeal := Cert.KernelIdeal.Gen.facts)
    (hReferenceIdeal := Cert.ReferenceIdeal.Gen.facts) (hPre_group_maxima_in_range := Cert.Pre_group_maxima_in_range.Gen.facts) := by
  intro m g m' g' hp hin
  have hr : ∀ c b s k, InRange (amax (KernelIdeal.Value.inX m c) b s k) := fun c b s k => inRange_of_pre _ _ _ _ (hp c) b s k
  refine ⟨fun c => W5 m g c (Proc.devRef .tc main_v27), fun c => W5 m g c (Proc.devRef .tc main_v29), fun c => W5 m g c (Proc.devRef .tc main_v31),
    fun c => W5 m g c (Proc.devRef .tc main_v32), fun c => W5 m g c (Proc.devRef .tc main_v33), ?_, ?_⟩
  · refine (θ_run _ _ _).mono (fun r h c => ?_) (run_folds m g)
    have h := h.1 c
    exact ⟨h _ (mem_uc main_v27 (by decide)), h _ (mem_uc main_v29 (by decide)), h _ (mem_uc main_v31 (by decide)), h _ (mem_uc main_v32 (by decide)), h _ (mem_uc main_v33 (by decide)),
      (h _ (mem_uc main_arg0 (by decide))).trans (W5_main_arg0 m g c), (h _ (mem_uc main_arg1 (by decide))).trans (W5_main_arg1 m g c),
      (h _ (mem_uc main_arg2 (by decide))).trans (W5_main_arg2 m g c), (h _ (mem_uc main_arg3 (by decide))).trans (W5_main_arg3 m g c)⟩
  · refine (θ_run _ _ _).mono (fun r h c => ?_) (ReferenceIdeal.Value.run m' g')
    obtain ⟨a0, a1, a2, a3⟩ := hin c
    obtain ⟨r0, r1, r2, r3, r4, r⟩ := h c
    exact ⟨r0.trans (queries m g m' c a0 a1 a2 a3 (hr c)), r1.trans (keys m g m' c a0 a1 a2 a3 (hr c)), r2.trans (values m g m' c a0 a2 a3 (hr c)),
      r3.trans (codes m g m' c a0 (hr c)), r4.trans (scales m g m' c a0 (hr c)), r⟩

end Cert.Equal

end
-- ==== Proof.lean ====
/- The proof of the certificate's claim: the frames are the generated ones, the equality of the results is proved in
   Proof/Equal.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_group_maxima_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_group_maxima_in_range.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  Cert.Equal.algebraic⟩

end Cert.Proof

end
